-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x5120 : Shape := ⟨3, ![8, 2048, 5120]⟩
abbrev S8x2048x40 : Shape := ⟨3, ![8, 2048, 40]⟩
abbrev S8x2048x1792 : Shape := ⟨3, ![8, 2048, 1792]⟩
abbrev S16384x5120 : Shape := ⟨2, ![16384, 5120]⟩
abbrev S16384x40 : Shape := ⟨2, ![16384, 40]⟩
abbrev S16384x1792 : Shape := ⟨2, ![16384, 1792]⟩
abbrev S5120x1792 : Shape := ⟨2, ![5120, 1792]⟩
abbrev S128x5120 : Shape := ⟨2, ![128, 5120]⟩
abbrev S128x1792 : Shape := ⟨2, ![128, 1792]⟩
abbrev S512x5120 : Shape := ⟨2, ![512, 5120]⟩
abbrev S512x40 : Shape := ⟨2, ![512, 40]⟩
abbrev S512x1792 : Shape := ⟨2, ![512, 1792]⟩
abbrev S8x5120 : Shape := ⟨2, ![8, 5120]⟩
abbrev S8x1792 : Shape := ⟨2, ![8, 1792]⟩
abbrev S2x512x1024 : Shape := ⟨3, ![2, 512, 1024]⟩
abbrev S128x256 : Shape := ⟨2, ![128, 256]⟩
abbrev S256 : Shape := ⟨1, ![256]⟩
abbrev S1x256 : Shape := ⟨2, ![1, 256]⟩
abbrev S252x256 : Shape := ⟨2, ![252, 256]⟩
abbrev S8x256 : Shape := ⟨2, ![8, 256]⟩
abbrev S128x40 : Shape := ⟨2, ![128, 40]⟩
abbrev S128x1 : Shape := ⟨2, ![128, 1]⟩
abbrev S128x128 : Shape := ⟨2, ![128, 128]⟩
abbrev S128 : Shape := ⟨1, ![128]⟩
abbrev S1x128 : Shape := ⟨2, ![1, 128]⟩
abbrev S252x128 : Shape := ⟨2, ![252, 128]⟩
abbrev S8x128 : Shape := ⟨2, ![8, 128]⟩
abbrev S1x128x128 : Shape := ⟨3, ![1, 128, 128]⟩
abbrev S1024x1792 : Shape := ⟨2, ![1024, 1792]⟩
abbrev S1x512x1024 : Shape := ⟨3, ![1, 512, 1024]⟩
abbrev S512x1024 : Shape := ⟨2, ![512, 1024]⟩

abbrev nBuf : Space → Nat
  | .hbm => 11
  | .vmem => 17
  | .smem => 0
  | _ => 0

abbrev bufTy : (tb : Table) → Fin (tcTables nBuf tb) → BufTy
  | .hbm, ⟨0, _⟩ => ⟨S8x2048x5120, .fp8e4m3⟩
  | .hbm, ⟨1, _⟩ => ⟨S8x2048x40, .f32⟩
  | .hbm, ⟨2, _⟩ => ⟨S8x2048x1792, .bf16⟩
  | .hbm, ⟨3, _⟩ => ⟨S16384x5120, .fp8e4m3⟩
  | .hbm, ⟨4, _⟩ => ⟨S16384x40, .f32⟩
  | .hbm, ⟨5, _⟩ => ⟨S16384x1792, .bf16⟩
  | .hbm, ⟨6, _⟩ => ⟨S5120x1792, .f32⟩
  | .hbm, ⟨7, _⟩ => ⟨S16384x5120, .fp8e4m3⟩
  | .hbm, ⟨8, _⟩ => ⟨S128x5120, .f32⟩
  | .hbm, ⟨9, _⟩ => ⟨S16384x1792, .fp8e4m3⟩
  | .hbm, ⟨10, _⟩ => ⟨S128x1792, .f32⟩
  | .local _ .vmem, ⟨0, _⟩ => ⟨S512x5120, .fp8e4m3⟩
  | .local _ .vmem, ⟨1, _⟩ => ⟨S512x5120, .fp8e4m3⟩
  | .local _ .vmem, ⟨2, _⟩ => ⟨S512x40, .f32⟩
  | .local _ .vmem, ⟨3, _⟩ => ⟨S512x40, .f32⟩
  | .local _ .vmem, ⟨4, _⟩ => ⟨S512x1792, .bf16⟩
  | .local _ .vmem, ⟨5, _⟩ => ⟨S512x1792, .bf16⟩
  | .local _ .vmem, ⟨6, _⟩ => ⟨S5120x1792, .f32⟩
  | .local _ .vmem, ⟨7, _⟩ => ⟨S512x5120, .fp8e4m3⟩
  | .local _ .vmem, ⟨8, _⟩ => ⟨S512x5120, .fp8e4m3⟩
  | .local _ .vmem, ⟨9, _⟩ => ⟨S8x5120, .f32⟩
  | .local _ .vmem, ⟨10, _⟩ => ⟨S8x5120, .f32⟩
  | .local _ .vmem, ⟨11, _⟩ => ⟨S512x1792, .fp8e4m3⟩
  | .local _ .vmem, ⟨12, _⟩ => ⟨S512x1792, .fp8e4m3⟩
  | .local _ .vmem, ⟨13, _⟩ => ⟨S8x1792, .f32⟩
  | .local _ .vmem, ⟨14, _⟩ => ⟨S8x1792, .f32⟩
  | .local _ .vmem, ⟨15, _⟩ => ⟨S2x512x1024, .bf16⟩
  | .local _ .vmem, ⟨16, _⟩ => ⟨S512x1792, .bf16⟩
  | _, _ => ⟨S8x2048x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5120 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1792 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x2048x5120 : Shape := ⟨3, ![8, 2048, 5120]⟩
abbrev S8x2048x40 : Shape := ⟨3, ![8, 2048, 40]⟩
abbrev S8x2048x1792 : Shape := ⟨3, ![8, 2048, 1792]⟩
abbrev S5120x1792 : Shape := ⟨2, ![5120, 1792]⟩
abbrev S16384x5120 : Shape := ⟨2, ![16384, 5120]⟩
abbrev S128x5120 : Shape := ⟨2, ![128, 5120]⟩
abbrev S16384x1792 : Shape := ⟨2, ![16384, 1792]⟩
abbrev S128x1792 : Shape := ⟨2, ![128, 1792]⟩
abbrev S8x2048x40x128 : Shape := ⟨4, ![8, 2048, 40, 128]⟩
abbrev S8x2048x40x1 : Shape := ⟨4, ![8, 2048, 40, 1]⟩
abbrev S128x128x5120 : Shape := ⟨3, ![128, 128, 5120]⟩
abbrev S128x1x5120 : Shape := ⟨3, ![128, 1, 5120]⟩
abbrev S128x128x1792 : Shape := ⟨3, ![128, 128, 1792]⟩
abbrev S128x1x1792 : Shape := ⟨3, ![128, 1, 1792]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x5120, .fp8e4m3⟩
  | .hbm, ⟨1, _⟩ => ⟨S8x2048x40, .f32⟩
  | .hbm, ⟨2, _⟩ => ⟨S8x2048x1792, .bf16⟩
  | .hbm, ⟨3, _⟩ => ⟨S5120x1792, .f32⟩
  | .hbm, ⟨4, _⟩ => ⟨S16384x5120, .fp8e4m3⟩
  | .hbm, ⟨5, _⟩ => ⟨S128x5120, .f32⟩
  | .hbm, ⟨6, _⟩ => ⟨S16384x1792, .fp8e4m3⟩
  | .hbm, ⟨7, _⟩ => ⟨S128x1792, .f32⟩
  | .local _ .vmem, ⟨0, _⟩ => ⟨S8x2048x5120, .fp8e4m3⟩
  | .local _ .vmem, ⟨1, _⟩ => ⟨S8x2048x40, .f32⟩
  | .local _ .vmem, ⟨2, _⟩ => ⟨S8x2048x1792, .bf16⟩
  | .local _ .vmem, ⟨3, _⟩ => ⟨S5120x1792, .f32⟩
  | .local _ .vmem, ⟨4, _⟩ => ⟨S16384x5120, .fp8e4m3⟩
  | .local _ .vmem, ⟨5, _⟩ => ⟨S128x5120, .f32⟩
  | .local _ .vmem, ⟨6, _⟩ => ⟨S16384x1792, .fp8e4m3⟩
  | .local _ .vmem, ⟨7, _⟩ => ⟨S128x1792, .f32⟩
  | _, _ => ⟨S8x2048x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x2048x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x1792 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Blocks.lean ====
/- The kernel's body as a program over BLOCKS: what the printed function does unrolled — 28 blocks of `dy`, then five
   times 32 blocks of `x` and one product — said once per kind of block, with the block's position a parameter. -/
module

public import proofs.«01_k».proof.Proof.Gen.KernelIdeal

@[expose] public section

noncomputable section

namespace Cert.KernelIdeal.Hand

open Idealize.ShloMosaic Idealize.SL.Sem Cert.KernelIdeal Cert.KernelIdeal.Gen

variable {F : FTy → Type} [FloatOps F]

/-! ## The quantiser on a block of `n` columns -/

/-- A block of 128 tokens by `n` columns. -/
abbrev Blk (n : ℕ) : Shape := ⟨2, ![128, n]⟩
/-- One row of `n` columns, as a matrix. -/
abbrev Row (n : ℕ) : Shape := ⟨2, ![1, n]⟩
/-- One row of `n` columns, as a vector. -/
abbrev Vec1 (n : ℕ) : Shape := ⟨1, ![n]⟩
/-- The 252 powers of two against `n` columns. -/
abbrev Lad (n : ℕ) : Shape := ⟨2, ![252, n]⟩
/-- The eight rows of a block of scales. -/
abbrev Row8 (n : ℕ) : Shape := ⟨2, ![8, n]⟩

/-- The shape facts the quantiser's operations state, at `n` columns. -/
structure Lanes (n : ℕ) : Prop where
  red : (Blk n).Reduces [0] (Vec1 n)
  row : (Vec1 n).ShapeCasts (Row n)
  iota : (Lad n).Iotas .tc 32 [0]
  lad : (Row n).Broadcasts (Lad n)
  redLad : (Lad n).Reduces [0] (Vec1 n)
  blk : (Row n).Broadcasts (Blk n)
  row8 : (Row n).Broadcasts (Row8 n)
  iota8 : (Row8 n).Iotas .tc 32 [0]
  cRow : (Row n).ShapeCasts (Row n)
  cRow8 : (Row8 n).ShapeCasts (Row8 n)
  cBlk : (Blk n).ShapeCasts (Blk n)

theorem lanes256 : Lanes 256 :=
  ⟨reduces_S128x256_S256, shapeCasts_S256_S1x256, iota_S252x256_d0_w32, broadcasts_S1x256_S252x256, reduces_S252x256_S256,
    broadcasts_S1x256_S128x256, broadcasts_S1x256_S8x256, iota_S8x256_d0_w32, shapeCasts_S1x256_S1x256, shapeCasts_S8x256_S8x256,
    shapeCasts_S128x256_S128x256⟩

theorem lanes128 : Lanes 128 :=
  ⟨reduces_S128x128_S128, shapeCasts_S128_S1x128, iota_S252x128_d0_w32, broadcasts_S1x128_S252x128, reduces_S252x128_S128,
    broadcasts_S1x128_S128x128, broadcasts_S1x128_S8x128, iota_S8x128_d0_w32, shapeCasts_S1x128_S1x128, shapeCasts_S8x128_S8x128,
    shapeCasts_S128x128_S128x128⟩

section Quantiser

variable {n : ℕ} (L : Lanes n)

/-- Each column's largest magnitude over 448. -/
def ratio (v : FVec F (Blk n) .bf16) : FVec F (Row n) .f32 :=
  mulf (extf .f32 (shapeCast (Row n) (multiReduction .maximumf [0] (Vec1 n) (absf v) 0xFF80#16 L.red (.inr rfl) rfl) L.row)
    bitsLt_bf16_f32) (broadcast (Row n) (Scalar.ofBits .f32 0x3B124925#32))

/-- How many of the powers 2^(j - 127), 1 ≤ j ≤ 252, each column's ratio reaches. -/
def field (v : FVec F (Blk n) .bf16) : IVec (Row n) 32 :=
  shapeCast (Row n) (multiReductionI .add [0] (Vec1 n)
    (extui 32 (cmpf .oge (broadcastTo (Lad n) (ratio L v) L.lad)
      (bitcastToFloat .f32 (shli (addi (iota .tc (Lad n) 32 [0] L.iota) (broadcast (Lad n) 1#32)) (broadcast (Lad n) 23#32))))
      natLt_1_32) 0#32 L.redLad rfl) L.row

/-- The exponent of each column's scale. -/
def expo (v : FVec F (Blk n) .bf16) : IVec (Row n) 32 :=
  select (cmpi .eq (field L v) (broadcast (Row n) 0#32)) (broadcast (Row n) 0#32) (subi (field L v) (broadcast (Row n) 126#32))

/-- Each column's scale. -/
def scale (v : FVec F (Blk n) .bf16) : FVec F (Row n) .f32 :=
  bitcastToFloat .f32 (shli (addi (expo L v) (broadcast (Row n) 127#32)) (broadcast (Row n) 23#32))

/-- Its inverse. -/
def inv (v : FVec F (Blk n) .bf16) : FVec F (Row n) .f32 :=
  bitcastToFloat .f32 (shli (subi (broadcast (Row n) 127#32) (expo L v)) (broadcast (Row n) 23#32))

/-- The block's codes. -/
def codes (v : FVec F (Blk n) .bf16) : FVec F (Blk n) .fp8e4m3 :=
  truncf .fp8e4m3 (minimumf (broadcast (Blk n) (Scalar.truncf .bf16 bitsLt_bf16_f32 (Scalar.ofBits .f32 0x43E00000#32)))
    (maximumf (broadcast (Blk n) (Scalar.truncf .bf16 bitsLt_bf16_f32 (Scalar.ofBits .f32 0xC3E00000#32)))
      (mulf v (broadcastTo (Blk n) (truncf .bf16 (inv L v) bitsLt_bf16_f32) L.blk)))) bitsLt_fp8e4m3_bf16

/-- The codes times their scales: the block as the product reads it. -/
def wide (v : FVec F (Blk n) .bf16) : FVec F (Blk n) .bf16 :=
  mulf (extf .bf16 (codes L v) bitsLt_fp8e4m3_bf16) (broadcastTo (Blk n) (truncf .bf16 (scale L v) bitsLt_bf16_f32) L.blk)

/-- The eight rows of scales `old` with row `r` replaced by the block's scales. -/
def putRow (r : BitVec 32) (v : FVec F (Blk n) .bf16) (old : FVec F (Row8 n) .f32) : FVec F (Row8 n) .f32 :=
  select (cmpi .eq (iota .tc (Row8 n) 32 [0] L.iota8) (broadcast (Row8 n) r))
    (broadcastTo (Row8 n) (shapeCast (Row n) (scale L v) L.cRow) L.row8) (shapeCast (Row8 n) old L.cRow8)

end Quantiser

/-! ## Where the blocks lie -/

theorem inbDy : ∀ (g : Fin 4) (b : Fin 7), ∀ a, (![128 * g.val, 256 * b.val] : Fin 2 → Nat) a + S128x256.size a ≤ S512x1792.size a := by
  decide
theorem packedDq : ∀ (g : Fin 4) (b : Fin 7),
    (Rect.unit (s := S512x1792) ![128 * g.val, 256 * b.val] S128x256.size (inbDy g b)).PackedRows (EltTy.packing .fp8e4m3) := by decide
theorem packedDyw : ∀ (g : Fin 4) (b : Fin 7),
    (Rect.unit (s := S512x1792) ![128 * g.val, 256 * b.val] S128x256.size (inbDy g b)).PackedRows (EltTy.packing .bf16) := by decide
theorem inbDs : ∀ (b : Fin 7), ∀ a, (![0, 256 * b.val] : Fin 2 → Nat) a + S8x256.size a ≤ S8x1792.size a := by decide

theorem inbFs : ∀ (g : Fin 4), ∀ a, (![128 * g.val, 0] : Fin 2 → Nat) a + S128x40.size a ≤ S512x40.size a := by decide
theorem inbX : ∀ (g : Fin 4) (j : Fin 40), ∀ a, (![128 * g.val, 128 * j.val] : Fin 2 → Nat) a + S128x128.size a ≤ S512x5120.size a := by
  decide
theorem packedXq : ∀ (g : Fin 4) (j : Fin 40),
    (Rect.unit (s := S512x5120) ![128 * g.val, 128 * j.val] S128x128.size (inbX g j)).PackedRows (EltTy.packing .fp8e4m3) := by decide
theorem inbXs : ∀ (j : Fin 40), ∀ a, (![0, 128 * j.val] : Fin 2 → Nat) a + S8x128.size a ≤ S8x5120.size a := by decide
theorem slicesFs : ∀ (j : Fin 40), S128x40.Slices ![0, j.val] S128x1 := by decide
theorem inbXw : ∀ (h : Fin 2) (g : Fin 4) (b : Fin 8), ∀ a,
    (![h.val, 128 * g.val, 128 * b.val] : Fin 3 → Nat) a + S1x128x128.size a ≤ S2x512x1024.size a := by decide
theorem packedXw : ∀ (h : Fin 2) (g : Fin 4) (b : Fin 8),
    (Rect.unit (s := S2x512x1024) ![h.val, 128 * g.val, 128 * b.val] S1x128x128.size (inbXw h g b)).PackedRows (EltTy.packing .bf16) := by
  decide
theorem inbXwHalf : ∀ (h : Fin 2), ∀ a, (![h.val, 0, 0] : Fin 3 → Nat) a + S1x512x1024.size a ≤ S2x512x1024.size a := by decide
theorem inbDw : ∀ (p : Fin 5), ∀ a, (![1024 * p.val, 0] : Fin 2 → Nat) a + S1024x1792.size a ≤ S5120x1792.size a := by decide

/-- The column block of `x` that pass `p` reads `b`-th. -/
abbrev col (p : Fin 5) (b : Fin 8) : Fin 40 := ⟨8 * p.val + b.val, by omega⟩
/-- The half of the scratch that pass `p` fills. -/
abbrev half (p : Fin 5) : Fin 2 := ⟨p.val % 2, by omega⟩

/-! ## The block programs -/

/-- Runs the programs of a list one after the other. -/
def seqAll {α : Type} (f : α → Prog (TpuEff nD τ sig (Elt F) Λ₀ .tc) PUnit) : List α → Prog (TpuEff nD τ sig (Elt F) Λ₀ .tc) PUnit
  | [] => pure ⟨⟩
  | a :: l => f a >>= fun _ => seqAll f l

section Programs

variable (i : grid0.Coords) (arg1 : Memref sig .tc .vmem S512x5120 .fp8e4m3) (harg1 : arg1.IsWhole)
  (arg2 : Memref sig .tc .vmem S512x40 .f32) (harg2 : arg2.IsWhole) (arg3 : Memref sig .tc .vmem S512x1792 .bf16) (harg3 : arg3.IsWhole)
  (arg4 : Memref sig .tc .vmem S5120x1792 .f32) (harg4 : arg4.IsWhole) (arg5 : Memref sig .tc .vmem S512x5120 .fp8e4m3) (harg5 : arg5.IsWhole)
  (arg6 : Memref sig .tc .vmem S8x5120 .f32) (harg6 : arg6.IsWhole) (arg7 : Memref sig .tc .vmem S512x1792 .fp8e4m3) (harg7 : arg7.IsWhole)
  (arg8 : Memref sig .tc .vmem S8x1792 .f32) (harg8 : arg8.IsWhole) (arg9 : Memref sig .tc .vmem S2x512x1024 .bf16) (harg9 : arg9.IsWhole)
  (arg10 : Memref sig .tc .vmem S512x1792 .bf16) (harg10 : arg10.IsWhole)

/-- The first row of scales this grid point writes: 0 at even points, 4 at odd. -/
def row0 : BitVec 32 := Scalar.muli (Scalar.remsi (BitVec.ofNat 32 (i 0).val) 2#32) 4#32

/-- The first grid point, as the kernel tests it. -/
abbrev first : Prop :=
  Scalar.cmpi .ne (Scalar.extui (Scalar.cmpi .eq (BitVec.ofNat 32 (i 0).val) 0#32) : BitVec 32) 0#32 = 1#1

/-- The accumulator zeroed at the first grid point. -/
def zeroAcc : Prog (TpuEff nD τ sig (Elt F) Λ₀ .tc) PUnit :=
  if h : first i then do
    let _ : Vec F S5120x1792 .f32 ← Prog.lift (.load arg4 (Rect.unit (s := S5120x1792) ![0, 0] S5120x1792.size inb_S5120x1792_S5120x1792_0_0).toLoadRect (View.loadsAt_vmem h_S5120x1792))
    Prog.lift (.store arg4 (Rect.unit (s := S5120x1792) ![0, 0] S5120x1792.size inb_S5120x1792_S5120x1792_0_0) (broadcast S5120x1792 (Scalar.ofBits .f32 0x00000000#32)) Finset.univ (View.stores_vmem_bits_univ h_S5120x1792 rfl) (.inl rfl))
    pure ⟨⟩
  else do
    pure ⟨⟩

/-- One block of `dy`: its codes, its row of scales, its widened copy. -/
def dyBlk (g : Fin 4) (b : Fin 7) : Prog (TpuEff nD τ sig (Elt F) Λ₀ .tc) PUnit := do
  let v : Vec F S128x256 .bf16 ← Prog.lift (.load arg3 (Rect.unit (s := S512x1792) ![128 * g.val, 256 * b.val] S128x256.size (inbDy g b)).toLoadRect (View.loadsAt_vmem h_S128x256))
  let _ : Vec F S128x256 .fp8e4m3 ← Prog.lift (.load arg7 (Rect.unit (s := S512x1792) ![128 * g.val, 256 * b.val] S128x256.size (inbDy g b)).toLoadRect (View.loadsAt_vmem h_S128x256))
  Prog.lift (.store arg7 (Rect.unit (s := S512x1792) ![128 * g.val, 256 * b.val] S128x256.size (inbDy g b)) (codes lanes256 (shapeCast S128x256 v shapeCasts_S128x256_S128x256)) Finset.univ (View.stores_vmem h_S128x256 (harg7.storeExact_slice rfl _ (packedDq g b)) (fun _ => rfl)) (.inl rfl))
  let old : Vec F S8x256 .f32 ← Prog.lift (.load arg8 (Rect.unit (s := S8x1792) ![0, 256 * b.val] S8x256.size (inbDs b)).toLoadRect (View.loadsAt_vmem h_S8x256))
  let _ : Vec F S8x256 .f32 ← Prog.lift (.load arg8 (Rect.unit (s := S8x1792) ![0, 256 * b.val] S8x256.size (inbDs b)).toLoadRect (View.loadsAt_vmem h_S8x256))
  Prog.lift (.store arg8 (Rect.unit (s := S8x1792) ![0, 256 * b.val] S8x256.size (inbDs b)) (putRow lanes256 (Scalar.addi (row0 i) (BitVec.ofNat 32 g.val)) (shapeCast S128x256 v shapeCasts_S128x256_S128x256) old) Finset.univ (View.stores_vmem_bits_univ h_S8x256 rfl) (.inl rfl))
  let _ : Vec F S128x256 .bf16 ← Prog.lift (.load arg10 (Rect.unit (s := S512x1792) ![128 * g.val, 256 * b.val] S128x256.size (inbDy g b)).toLoadRect (View.loadsAt_vmem h_S128x256))
  Prog.lift (.store arg10 (Rect.unit (s := S512x1792) ![128 * g.val, 256 * b.val] S128x256.size (inbDy g b)) (shapeCast S128x256 (wide lanes256 (shapeCast S128x256 v shapeCasts_S128x256_S128x256)) shapeCasts_S128x256_S128x256) Finset.univ (View.stores_vmem h_S128x256 (harg10.storeExact_slice rfl _ (packedDyw g b)) (fun _ => rfl)) (.inl rfl))

/-- The block of `x` a pass reads: its codes times its forward scales. -/
def xIn (fs : Vec F S128x40 .f32) (x : Vec F S128x128 .fp8e4m3) (j : Fin 40) : FVec F S128x128 .bf16 :=
  mulf (extf .bf16 (shapeCast S128x128 x shapeCasts_S128x128_S128x128) bitsLt_fp8e4m3_bf16)
    (truncf .bf16 (broadcastTo S128x128 (shapeCast S128x1 (extractStridedSlice S128x1 ![0, j.val]
      (shapeCast S128x40 fs shapeCasts_S128x40_S128x40) (slicesFs j)) shapeCasts_S128x1_S128x1) broadcasts_S128x1_S128x128) bitsLt_bf16_f32)

/-- One block of `x`: its codes, its row of scales, its widened copy. -/
def xBlk (p : Fin 5) (g : Fin 4) (fs : Vec F S128x40 .f32) (b : Fin 8) : Prog (TpuEff nD τ sig (Elt F) Λ₀ .tc) PUnit := do
  let x : Vec F S128x128 .fp8e4m3 ← Prog.lift (.load arg1 (Rect.unit (s := S512x5120) ![128 * g.val, 128 * (col p b).val] S128x128.size (inbX g (col p b))).toLoadRect (View.loadsAt_vmem h_S128x128))
  let _ : Vec F S128x128 .fp8e4m3 ← Prog.lift (.load arg5 (Rect.unit (s := S512x5120) ![128 * g.val, 128 * (col p b).val] S128x128.size (inbX g (col p b))).toLoadRect (View.loadsAt_vmem h_S128x128))
  Prog.lift (.store arg5 (Rect.unit (s := S512x5120) ![128 * g.val, 128 * (col p b).val] S128x128.size (inbX g (col p b))) (codes lanes128 (xIn fs x (col p b))) Finset.univ (View.stores_vmem h_S128x128 (harg5.storeExact_slice rfl _ (packedXq g (col p b))) (fun _ => rfl)) (.inl rfl))
  let old : Vec F S8x128 .f32 ← Prog.lift (.load arg6 (Rect.unit (s := S8x5120) ![0, 128 * (col p b).val] S8x128.size (inbXs (col p b))).toLoadRect (View.loadsAt_vmem h_S8x128))
  let _ : Vec F S8x128 .f32 ← Prog.lift (.load arg6 (Rect.unit (s := S8x5120) ![0, 128 * (col p b).val] S8x128.size (inbXs (col p b))).toLoadRect (View.loadsAt_vmem h_S8x128))
  Prog.lift (.store arg6 (Rect.unit (s := S8x5120) ![0, 128 * (col p b).val] S8x128.size (inbXs (col p b))) (putRow lanes128 (Scalar.addi (row0 i) (BitVec.ofNat 32 g.val)) (xIn fs x (col p b)) old) Finset.univ (View.stores_vmem_bits_univ h_S8x128 rfl) (.inl rfl))
  let _ : Vec F S1x128x128 .bf16 ← Prog.lift (.load arg9 (Rect.unit (s := S2x512x1024) ![(half p).val, 128 * g.val, 128 * b.val] S1x128x128.size (inbXw (half p) g b)).toLoadRect (View.loadsAt_vmem h_S1x128x128))
  Prog.lift (.store arg9 (Rect.unit (s := S2x512x1024) ![(half p).val, 128 * g.val, 128 * b.val] S1x128x128.size (inbXw (half p) g b)) (shapeCast S1x128x128 (wide lanes128 (xIn fs x (col p b))) shapeCasts_S128x128_S1x128x128) Finset.univ (View.stores_vmem h_S1x128x128 (harg9.storeExact_slice rfl _ (packedXw (half p) g b)) (fun _ => rfl)) (.inl rfl))

/-- The eight blocks of `x` of 128 tokens in pass `p`. -/
def xGroup (p : Fin 5) (g : Fin 4) : Prog (TpuEff nD τ sig (Elt F) Λ₀ .tc) PUnit := do
  let fs : Vec F S128x40 .f32 ← Prog.lift (.load arg2 (Rect.unit (s := S512x40) ![128 * g.val, 0] S128x40.size (inbFs g)).toLoadRect (View.loadsAt_vmem h_S128x40))
  seqAll (xBlk i arg1 arg5 harg5 arg6 arg9 harg9 p g fs) [0, 1, 2, 3, 4, 5, 6, 7]

/-- The product of pass `p`, added into its rows of the accumulator. -/
def product (p : Fin 5) : Prog (TpuEff nD τ sig (Elt F) Λ₀ .tc) PUnit := do
  let acc : Vec F S1024x1792 .f32 ← Prog.lift (.load arg4 (Rect.unit (s := S5120x1792) ![1024 * p.val, 0] S1024x1792.size (inbDw p)).toLoadRect (View.loadsAt_vmem h_S1024x1792))
  let xw : Vec F S1x512x1024 .bf16 ← Prog.lift (.load arg9 (Rect.unit (s := S2x512x1024) ![(half p).val, 0, 0] S1x512x1024.size (inbXwHalf (half p))).toLoadRect (View.loadsAt_vmem h_S1x512x1024))
  let dyw : Vec F S512x1792 .bf16 ← Prog.lift (.load arg10 (Rect.unit (s := S512x1792) ![0, 0] S512x1792.size inb_S512x1792_S512x1792_0_0).toLoadRect (View.loadsAt_vmem h_S512x1792))
  let _ : Vec F S1024x1792 .f32 ← Prog.lift (.load arg4 (Rect.unit (s := S5120x1792) ![1024 * p.val, 0] S1024x1792.size (inbDw p)).toLoadRect (View.loadsAt_vmem h_S1024x1792))
  Prog.lift (.store arg4 (Rect.unit (s := S5120x1792) ![1024 * p.val, 0] S1024x1792.size (inbDw p)) (addf (shapeCast S1024x1792 acc shapeCasts_S1024x1792_S1024x1792) (matmul dot_S512x1024_S512x1792_S1024x1792_0_0_1_1_n_n none (shapeCast S512x1024 xw shapeCasts_S1x512x1024_S512x1024) dyw (constant S1024x1792 .f32 0x00000000#32))) Finset.univ (View.stores_vmem_bits_univ h_S1024x1792 rfl) (.inl rfl))

/-- The body over blocks. -/
def body : Prog (TpuEff nD τ sig (Elt F) Λ₀ .tc) PUnit := do
  zeroAcc i arg4
  seqAll (fun g => seqAll (dyBlk i arg3 arg7 harg7 arg8 arg10 harg10 g) [0, 1, 2, 3, 4, 5, 6]) [0, 1, 2, 3]
  seqAll (fun p => do
    seqAll (xGroup i arg1 arg2 arg5 harg5 arg6 arg9 harg9 p) [0, 1, 2, 3]
    product arg4 arg9 arg10 p) [0, 1, 2, 3, 4]

end Programs

end Cert.KernelIdeal.Hand

end
-- ==== Proof.Steps.lean ====
/- What each block program of the body does to the buffers' contents, as a function on contents, and the body's triple:
   it leaves the fold of those functions. -/
module

public import proofs.«01_k».proof.Proof.Blocks
public import proofs.«01_k».proof.Proof.Gen.KernelIdeal.Frame

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## Loads and stores of an owned memref -/

section Rules

variable (c : Dev nD) {s : Shape} {e : EltTy} {m : Memref sig .tc .vmem s e}

/-- A load through a rectangle reads the contents there. -/
theorem wp_load_owns {E : Set ℕ} {K : PUnit → sProp 𝕄} (q : PosShare TreeShare) (r : Rect s) {hl : m.view.LoadsAt r.toLoadRect}
    {k : (r.shape.Idx → Elt F e) → Prog (TpuEff nD τ sig (Elt F) Λ₀ .tc) PUnit} (X : s.Idx → Elt F e) :
    (owns (c : Thread nD τ) m q X : sProp 𝕄)
      ⊢ iprop((owns (c : Thread nD τ) m q X
          -∗ wp frame (wpE (defs₀ (F := F)) Variants.none (c : Thread nD τ) none) E (k (fun x => X (r.emb x))) K)
        -∗ wp frame (wpE (defs₀ (F := F)) Variants.none (c : Thread nD τ) none) E (.op (.load m r.toLoadRect hl) k) K) := by
  unfold owns
  iintro ⟨%f, %hf, H⟩ Hk
  subst hf
  iapply (wp_load Variants.none (c : Thread nD τ) none E (m := m) (m.view.setOn_subset_set _)) $$ H
  iintro H
  iapply Hk
  iexists f
  isplitr; · ipureintro; rfl
  iexact H

/-- A store through a rectangle replaces the contents there. -/
theorem wp_store_owns {E : Set ℕ} {K : PUnit → sProp 𝕄} (r : Rect s) {w : r.shape.Idx → Elt F e}
    {hx : (m.access r).Stores Finset.univ} {hm : Finset.univ = Finset.univ ∨ ∀ a, r.stride a = 1}
    {k : PUnit → Prog (TpuEff nD τ sig (Elt F) Λ₀ .tc) PUnit} (X : s.Idx → Elt F e) :
    (owns (c : Thread nD τ) m fullShare X : sProp 𝕄)
      ⊢ iprop((owns (c : Thread nD τ) m fullShare (r.overlay X w)
          -∗ wp frame (wpE (defs₀ (F := F)) Variants.none (c : Thread nD τ) none) E (k ⟨⟩) K)
        -∗ wp frame (wpE (defs₀ (F := F)) Variants.none (c : Thread nD τ) none) E (.op (.store m r w Finset.univ hx hm) k) K) := by
  unfold owns
  iintro ⟨%f, %hf, H⟩ Hk
  iapply (wp_store Variants.none (c : Thread nD τ) none E (m := m) (r := r) (Mk := Finset.univ) (m.view.set_slice_subset r)) $$ H
  iintro H
  iapply Hk
  iexists ((m.access r).write (Elt F) f w Finset.univ)
  isplitr
  · ipureintro
    subst hf
    funext j
    by_cases hj : j ∈ r.set
    · obtain ⟨i, rfl⟩ := r.exists_idx_of_mem hj
      change m.view.read _ _ (r.emb i) = r.overlay _ w (r.emb i)
      rw [Rect.overlay_emb]
      exact View.read_write_of_mem (v := m.access r) f w (Finset.mem_univ i)
    · rw [Rect.overlay_of_not_mem _ _ _ hj, View.read_apply, View.read_apply,
        View.write_of_not_mem (v := m.access r) f w]
      rw [View.setOn_univ]
      show m.view.emb j ∉ (m.view.slice r).set
      rw [View.set_slice, Finset.mem_map' m.view.emb]; exact hj
  iexact H

end Rules

/-! ## The contents -/

/-- The contents of the buffers the body writes. -/
structure St (F : FTy → Type) [FloatOps F] where
  dw : Vec F S5120x1792 .f32
  xq : Vec F S512x5120 .fp8e4m3
  xs : Vec F S8x5120 .f32
  dq : Vec F S512x1792 .fp8e4m3
  ds : Vec F S8x1792 .f32
  xw : Vec F S2x512x1024 .bf16
  dyw : Vec F S512x1792 .bf16

/-- The rectangles the blocks lie on. -/
abbrev rDy (g : Fin 4) (b : Fin 7) : Rect S512x1792 := Rect.unit (s := S512x1792) ![128 * g.val, 256 * b.val] S128x256.size (inbDy g b)
abbrev rDs (b : Fin 7) : Rect S8x1792 := Rect.unit (s := S8x1792) ![0, 256 * b.val] S8x256.size (inbDs b)
abbrev rFs (g : Fin 4) : Rect S512x40 := Rect.unit (s := S512x40) ![128 * g.val, 0] S128x40.size (inbFs g)
abbrev rX (g : Fin 4) (j : Fin 40) : Rect S512x5120 := Rect.unit (s := S512x5120) ![128 * g.val, 128 * j.val] S128x128.size (inbX g j)
abbrev rXs (j : Fin 40) : Rect S8x5120 := Rect.unit (s := S8x5120) ![0, 128 * j.val] S8x128.size (inbXs j)
abbrev rXw (h : Fin 2) (g : Fin 4) (b : Fin 8) : Rect S2x512x1024 :=
  Rect.unit (s := S2x512x1024) ![h.val, 128 * g.val, 128 * b.val] S1x128x128.size (inbXw h g b)
abbrev rXwHalf (h : Fin 2) : Rect S2x512x1024 := Rect.unit (s := S2x512x1024) ![h.val, 0, 0] S1x512x1024.size (inbXwHalf h)
abbrev rDyw : Rect S512x1792 := Rect.unit (s := S512x1792) ![0, 0] S512x1792.size inb_S512x1792_S512x1792_0_0
abbrev rDw (p : Fin 5) : Rect S5120x1792 := Rect.unit (s := S5120x1792) ![1024 * p.val, 0] S1024x1792.size (inbDw p)
abbrev rDwAll : Rect S5120x1792 := Rect.unit (s := S5120x1792) ![0, 0] S5120x1792.size inb_S5120x1792_S5120x1792_0_0

section Blocks

variable (i : grid0.Coords) (X : Vec F S512x5120 .fp8e4m3) (FS : Vec F S512x40 .f32) (DY : Vec F S512x1792 .bf16)

/-- The block of `dy` at token group `g`, column block `b`. -/
def dyIn (g : Fin 4) (b : Fin 7) : FVec F S128x256 .bf16 :=
  shapeCast S128x256 (fun x => DY ((rDy g b).emb x)) shapeCasts_S128x256_S128x256

/-- The block of `x` at token group `g`, column block `j`, times its forward scales. -/
def xAt (g : Fin 4) (j : Fin 40) : FVec F S128x128 .bf16 :=
  xIn (fun x => FS ((rFs g).emb x)) (fun x => X ((rX g j).emb x)) j

/-- The row of scales token group `g` writes. -/
def rowOf (g : Fin 4) : BitVec 32 := Scalar.addi (row0 i) (BitVec.ofNat 32 g.val)

def zeroStep (st : St F) : St F :=
  if first i then { st with dw := rDwAll.overlay st.dw (broadcast S5120x1792 (Scalar.ofBits .f32 0x00000000#32)) } else st

def dyStep (g : Fin 4) (b : Fin 7) (st : St F) : St F :=
  { st with
    dq := (rDy g b).overlay st.dq (codes lanes256 (dyIn DY g b))
    ds := (rDs b).overlay st.ds (putRow lanes256 (rowOf i g) (dyIn DY g b) (fun x => st.ds ((rDs b).emb x)))
    dyw := (rDy g b).overlay st.dyw (shapeCast S128x256 (wide lanes256 (dyIn DY g b)) shapeCasts_S128x256_S128x256) }

def xStep (p : Fin 5) (g : Fin 4) (b : Fin 8) (st : St F) : St F :=
  { st with
    xq := (rX g (col p b)).overlay st.xq (codes lanes128 (xAt X FS g (col p b)))
    xs := (rXs (col p b)).overlay st.xs (putRow lanes128 (rowOf i g) (xAt X FS g (col p b)) (fun x => st.xs ((rXs (col p b)).emb x)))
    xw := (rXw (half p) g b).overlay st.xw (shapeCast S1x128x128 (wide lanes128 (xAt X FS g (col p b))) shapeCasts_S128x128_S1x128x128) }

def productStep (p : Fin 5) (st : St F) : St F :=
  { st with
    dw := (rDw p).overlay st.dw (addf (shapeCast S1024x1792 (fun x => st.dw ((rDw p).emb x)) shapeCasts_S1024x1792_S1024x1792)
      (matmul dot_S512x1024_S512x1792_S1024x1792_0_0_1_1_n_n none
        (shapeCast S512x1024 (fun x => st.xw ((rXwHalf (half p)).emb x)) shapeCasts_S1x512x1024_S512x1024)
        (fun x => st.dyw (rDyw.emb x)) (constant S1024x1792 .f32 0x00000000#32))) }

/-- A list of steps, in order. -/
def steps {α : Type} (f : α → St F → St F) : List α → St F → St F
  | [], st => st
  | a :: l, st => steps f l (f a st)

/-- All blocks of `dy`. -/
def dySteps : St F → St F := steps (fun g => steps (dyStep i DY g) [0, 1, 2, 3, 4, 5, 6]) [0, 1, 2, 3]

/-- Pass `p` over `x`. -/
def xSteps (p : Fin 5) : St F → St F := steps (fun g => steps (xStep i X FS p g) [0, 1, 2, 3, 4, 5, 6, 7]) [0, 1, 2, 3]

/-- The whole body. -/
def bodySteps (st : St F) : St F :=
  steps (fun p st => productStep p (xSteps i X FS p st)) [0, 1, 2, 3, 4] (dySteps i DY (zeroStep i st))

end Blocks

/-! ## The triples -/

section Triples

variable (c : Dev nD) (i : grid0.Coords) (arg1 : Memref sig .tc .vmem S512x5120 .fp8e4m3) (harg1 : arg1.IsWhole)
  (arg2 : Memref sig .tc .vmem S512x40 .f32) (harg2 : arg2.IsWhole) (arg3 : Memref sig .tc .vmem S512x1792 .bf16) (harg3 : arg3.IsWhole)
  (arg4 : Memref sig .tc .vmem S5120x1792 .f32) (harg4 : arg4.IsWhole) (arg5 : Memref sig .tc .vmem S512x5120 .fp8e4m3) (harg5 : arg5.IsWhole)
  (arg6 : Memref sig .tc .vmem S8x5120 .f32) (harg6 : arg6.IsWhole) (arg7 : Memref sig .tc .vmem S512x1792 .fp8e4m3) (harg7 : arg7.IsWhole)
  (arg8 : Memref sig .tc .vmem S8x1792 .f32) (harg8 : arg8.IsWhole) (arg9 : Memref sig .tc .vmem S2x512x1024 .bf16) (harg9 : arg9.IsWhole)
  (arg10 : Memref sig .tc .vmem S512x1792 .bf16) (harg10 : arg10.IsWhole)
  (X : Vec F S512x5120 .fp8e4m3) (FS : Vec F S512x40 .f32) (DY : Vec F S512x1792 .bf16)

/-- The buffers owned: the inputs at their contents, the others at `st`. -/
def Hold (st : St F) : sProp 𝕄 :=
  iprop(owns (c : Thread nD τ) arg1 fullShare X ∗ owns (c : Thread nD τ) arg2 fullShare FS ∗ owns (c : Thread nD τ) arg3 fullShare DY
    ∗ owns (c : Thread nD τ) arg4 fullShare st.dw ∗ owns (c : Thread nD τ) arg5 fullShare st.xq ∗ owns (c : Thread nD τ) arg6 fullShare st.xs
    ∗ owns (c : Thread nD τ) arg7 fullShare st.dq ∗ owns (c : Thread nD τ) arg8 fullShare st.ds
    ∗ owns (c : Thread nD τ) arg9 fullShare st.xw ∗ owns (c : Thread nD τ) arg10 fullShare st.dyw)

/-- A program that takes the contents through `f`. -/
def Does (p : Prog (TpuEff nD τ sig (Elt F) Λ₀ .tc) PUnit) (f : St F → St F) : Prop :=
  ∀ (E : Set ℕ) (K : PUnit → sProp 𝕄) (st : St F),
    iprop(Hold c arg1 arg2 arg3 arg4 arg5 arg6 arg7 arg8 arg9 arg10 X FS DY st
        ∗ (Hold c arg1 arg2 arg3 arg4 arg5 arg6 arg7 arg8 arg9 arg10 X FS DY (f st) -∗ K ⟨⟩))
      ⊢ wp frame (wpE (defs₀ (F := F)) Variants.none (c : Thread nD τ) none) E p K

variable {c arg1 arg2 arg3 arg4 arg5 arg6 arg7 arg8 arg9 arg10 X FS DY}

theorem Does.seq {p q : Prog (TpuEff nD τ sig (Elt F) Λ₀ .tc) PUnit} {f g : St F → St F}
    (hp : Does c arg1 arg2 arg3 arg4 arg5 arg6 arg7 arg8 arg9 arg10 X FS DY p f)
    (hq : Does c arg1 arg2 arg3 arg4 arg5 arg6 arg7 arg8 arg9 arg10 X FS DY q g) :
    Does c arg1 arg2 arg3 arg4 arg5 arg6 arg7 arg8 arg9 arg10 X FS DY (p >>= fun _ => q) (fun st => g (f st)) := by
  intro E K st
  rw [wp_bind]
  iintro ⟨H, Hk⟩
  iapply (hp E _ st)
  isplitl [H]; · iexact H
  iintro H
  iapply (hq E K (f st))
  isplitl [H]; · iexact H
  iexact Hk

theorem Does.done : Does c arg1 arg2 arg3 arg4 arg5 arg6 arg7 arg8 arg9 arg10 X FS DY (pure ⟨⟩) (fun st => st) := by
  intro E K st
  iintro ⟨H, Hk⟩
  iapply (le_wp_ret _ _ _ PUnit.unit K)
  iapply Hk
  iexact H

theorem Does.all {α : Type} {p : α → Prog (TpuEff nD τ sig (Elt F) Λ₀ .tc) PUnit} {f : α → St F → St F}
    (h : ∀ a, Does c arg1 arg2 arg3 arg4 arg5 arg6 arg7 arg8 arg9 arg10 X FS DY (p a) (f a)) (l : List α) :
    Does c arg1 arg2 arg3 arg4 arg5 arg6 arg7 arg8 arg9 arg10 X FS DY (seqAll p l) (steps f l) := by
  induction l with
  | nil => exact Does.done
  | cons a l ih => exact (h a).seq ih

theorem does_zero : Does c arg1 arg2 arg3 arg4 arg5 arg6 arg7 arg8 arg9 arg10 X FS DY (zeroAcc i arg4) (zeroStep i) := by
  unfold zeroAcc zeroStep
  by_cases h : first i
  · simp only [dif_pos h, if_pos h]
    intro E K st
    unfold Hold
    iintro ⟨⟨H1, H2, H3, H4, H5, H6, H7, H8, H9, H10⟩, Hk⟩
    iapply (wp_load_owns c fullShare rDwAll st.dw) $$ H4; iintro H4
    iapply (wp_store_owns c rDwAll st.dw) $$ H4; iintro H4
    iapply (le_wp_ret _ _ _ PUnit.unit K)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [dif_neg h, if_neg h]
    exact Does.done

theorem does_dy (g : Fin 4) (b : Fin 7) :
    Does c arg1 arg2 arg3 arg4 arg5 arg6 arg7 arg8 arg9 arg10 X FS DY (dyBlk i arg3 arg7 harg7 arg8 arg10 harg10 g b) (dyStep i DY g b) := by
  intro E K st
  unfold Hold dyBlk dyStep dyIn rowOf
  dsimp only
  iintro ⟨⟨H1, H2, H3, H4, H5, H6, H7, H8, H9, H10⟩, Hk⟩
  iapply (wp_load_owns c fullShare (rDy g b) DY) $$ H3; iintro H3
  iapply (wp_load_owns c fullShare (rDy g b) st.dq) $$ H7; iintro H7
  iapply (wp_store_owns c (rDy g b) st.dq) $$ H7; iintro H7
  iapply (wp_load_owns c fullShare (rDs b) st.ds) $$ H8; iintro H8
  iapply (wp_load_owns c fullShare (rDs b) st.ds) $$ H8; iintro H8
  iapply (wp_store_owns c (rDs b) st.ds) $$ H8; iintro H8
  iapply (wp_load_owns c fullShare (rDy g b) st.dyw) $$ H10; iintro H10
  iapply (wp_store_owns c (rDy g b) st.dyw) $$ H10; iintro H10
  iapply (le_wp_ret _ _ _ PUnit.unit K)
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem does_xGroup (p : Fin 5) (g : Fin 4) :
    Does c arg1 arg2 arg3 arg4 arg5 arg6 arg7 arg8 arg9 arg10 X FS DY (xGroup i arg1 arg2 arg5 harg5 arg6 arg9 harg9 p g)
      (steps (xStep i X FS p g) [0, 1, 2, 3, 4, 5, 6, 7]) := by
  have hb (b : Fin 8) : Does c arg1 arg2 arg3 arg4 arg5 arg6 arg7 arg8 arg9 arg10 X FS DY
      (xBlk i arg1 arg5 harg5 arg6 arg9 harg9 p g (fun x => FS ((rFs g).emb x)) b) (xStep i X FS p g b) := by
    intro E K st
    unfold Hold xBlk xStep xAt rowOf
    dsimp only
    iintro ⟨⟨H1, H2, H3, H4, H5, H6, H7, H8, H9, H10⟩, Hk⟩
    iapply (wp_load_owns c fullShare (rX g (col p b)) X) $$ H1; iintro H1
    iapply (wp_load_owns c fullShare (rX g (col p b)) st.xq) $$ H5; iintro H5
    iapply (wp_store_owns c (rX g (col p b)) st.xq) $$ H5; iintro H5
    iapply (wp_load_owns c fullShare (rXs (col p b)) st.xs) $$ H6; iintro H6
    iapply (wp_load_owns c fullShare (rXs (col p b)) st.xs) $$ H6; iintro H6
    iapply (wp_store_owns c (rXs (col p b)) st.xs) $$ H6; iintro H6
    iapply (wp_load_owns c fullShare (rXw (half p) g b) st.xw) $$ H9; iintro H9
    iapply (wp_store_owns c (rXw (half p) g b) st.xw) $$ H9; iintro H9
    iapply (le_wp_ret _ _ _ PUnit.unit K)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  intro E K st
  have hall := Does.all hb [0, 1, 2, 3, 4, 5, 6, 7]
  unfold xGroup
  iintro ⟨H, Hk⟩
  ihave H' := (show Hold c arg1 arg2 arg3 arg4 arg5 arg6 arg7 arg8 arg9 arg10 X FS DY st ⊢ _ from (by unfold Hold; exact .rfl)) $$ H
  icases H' with ⟨H1, H2, Hr⟩
  iapply (wp_load_owns c fullShare (rFs g) FS) $$ H2; iintro H2
  iapply (hall E K st)
  isplitr [Hk]
  · unfold Hold
    isplitl [H1]; · iexact H1
    isplitl [H2]; · iexact H2
    iexact Hr
  iexact Hk

theorem does_product (p : Fin 5) :
    Does c arg1 arg2 arg3 arg4 arg5 arg6 arg7 arg8 arg9 arg10 X FS DY (product arg4 arg9 arg10 p) (productStep p) := by
  intro E K st
  unfold Hold product productStep
  dsimp only
  iintro ⟨⟨H1, H2, H3, H4, H5, H6, H7, H8, H9, H10⟩, Hk⟩
  iapply (wp_load_owns c fullShare (rDw p) st.dw) $$ H4; iintro H4
  iapply (wp_load_owns c fullShare (rXwHalf (half p)) st.xw) $$ H9; iintro H9
  iapply (wp_load_owns c fullShare rDyw st.dyw) $$ H10; iintro H10
  iapply (wp_load_owns c fullShare (rDw p) st.dw) $$ H4; iintro H4
  iapply (wp_store_owns c (rDw p) st.dw) $$ H4; iintro H4
  iapply (le_wp_ret _ _ _ PUnit.unit K)
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body takes the contents through `bodySteps`. -/
theorem does_body :
    Does c arg1 arg2 arg3 arg4 arg5 arg6 arg7 arg8 arg9 arg10 X FS DY
      (body i arg1 arg2 arg3 arg4 arg5 harg5 arg6 arg7 harg7 arg8 arg9 harg9 arg10 harg10) (bodySteps i X FS DY) := by
  have h1 : Does c arg1 arg2 arg3 arg4 arg5 arg6 arg7 arg8 arg9 arg10 X FS DY
      (seqAll (fun g => seqAll (dyBlk i arg3 arg7 harg7 arg8 arg10 harg10 g) [0, 1, 2, 3, 4, 5, 6]) [0, 1, 2, 3]) (dySteps i DY) :=
    Does.all (f := fun g => steps (dyStep i DY g) [0, 1, 2, 3, 4, 5, 6]) (fun g => Does.all (fun b => does_dy i harg7 harg10 g b) _) _
  have h2 (p : Fin 5) : Does c arg1 arg2 arg3 arg4 arg5 arg6 arg7 arg8 arg9 arg10 X FS DY
      (seqAll (xGroup i arg1 arg2 arg5 harg5 arg6 arg9 harg9 p) [0, 1, 2, 3]) (xSteps i X FS p) :=
    Does.all (f := fun g => steps (xStep i X FS p g) [0, 1, 2, 3, 4, 5, 6, 7]) (fun g => does_xGroup i harg5 harg9 p g) _
  have h3 := Does.all (f := fun p st => productStep p (xSteps i X FS p st)) (fun p => (h2 p).seq (does_product p)) [0, 1, 2, 3, 4]
  have h4 := (does_zero (c := c) (arg1 := arg1) (arg2 := arg2) (arg3 := arg3) (arg4 := arg4) (arg5 := arg5) (arg6 := arg6) (arg7 := arg7)
    (arg8 := arg8) (arg9 := arg9) (arg10 := arg10) (X := X) (FS := FS) (DY := DY) i).seq (h1.seq h3)
  unfold body bodySteps
  exact h4

end Triples

end Cert.KernelIdeal.Hand

end
-- ==== Proof.ReadBack.lean ====
/- What the body leaves, element by element: each block's codes and scales, the rows of scales of the other half of a
   block of eight untouched, and the accumulator plus one product per 1024 rows. -/
module

public import proofs.«01_k».proof.Proof.Steps
public import Idealize.ShloMosaic.Lib.Pointwise
public import Idealize.ShloMosaic.Lib.Pointwise.IndexVar

@[expose] public section

noncomputable section

namespace Cert.KernelIdeal.Hand

open Idealize.ShloMosaic Cert.KernelIdeal Cert.KernelIdeal.Gen

variable {F : FTy → Type} [FloatOps F]

/-! ## Lists of steps -/

section Lists

variable {α : Type} (f : α → St F → St F)

theorem steps_keep {Q : St F → Prop} (h : ∀ a st, Q st → Q (f a st)) (l : List α) (st : St F) (hst : Q st) : Q (steps f l st) := by
  induction l generalizing st with
  | nil => exact hst
  | cons a l ih => exact ih _ (h a st hst)

/-- What every step establishes for its own index and no step destroys holds of every index run. -/
theorem steps_all {P : α → St F → Prop} (h1 : ∀ a st, P a (f a st)) (h2 : ∀ a a' st, P a' st → P a' (f a st)) (l : List α) (st : St F) :
    ∀ a ∈ l, P a (steps f l st) := by
  induction l generalizing st with
  | nil => intro a ha; cases ha
  | cons b l ih =>
    intro a ha
    rcases List.mem_cons.mp ha with rfl | ha
    · exact steps_keep f (Q := P a) (fun b st h => h2 b a st h) l _ (h1 a st)
    · exact ih _ a ha

/-- What the steps of other indices keep, a list without the index keeps. -/
theorem steps_keep_of_not_mem {P : α → St F → Prop} (h2 : ∀ a a' st, a ≠ a' → P a' st → P a' (f a st)) (a : α) (l : List α) (hn : a ∉ l)
    (st : St F) (h : P a st) : P a (steps f l st) := by
  induction l generalizing st with
  | nil => exact h
  | cons c l ih =>
    exact ih (fun hm => hn (List.mem_cons_of_mem _ hm)) _ (h2 c a st (fun e => hn (e ▸ List.mem_cons_self)) h)

/-- The same where a step establishes its index's fact from a fact of the same index that the other steps keep. -/
theorem steps_once {R P : α → St F → Prop} (h1 : ∀ a st, R a st → P a (f a st)) (h2 : ∀ a a' st, a ≠ a' → P a' st → P a' (f a st))
    (h3 : ∀ a a' st, a ≠ a' → R a' st → R a' (f a st)) (l : List α) (hl : l.Nodup) (st : St F) (hR : ∀ a ∈ l, R a st) :
    ∀ a ∈ l, P a (steps f l st) := by
  induction l generalizing st with
  | nil => intro a ha; cases ha
  | cons b l ih =>
    rw [List.nodup_cons] at hl
    intro a ha
    rcases List.mem_cons.mp ha with rfl | ha
    · exact steps_keep_of_not_mem f h2 a l hl.1 _ (h1 a st (hR a List.mem_cons_self))
    · exact ih hl.2 _ (fun a' ha' => h3 b a' st (fun e => hl.1 (e ▸ ha')) (hR a' (List.mem_cons_of_mem _ ha'))) a ha

/-- Two nested lists. -/
theorem steps2_all {β : Type} (f : α → β → St F → St F) {P : α → β → St F → Prop} (h1 : ∀ a b st, P a b (f a b st))
    (h2 : ∀ a b a' b' st, P a' b' st → P a' b' (f a b st)) (la : List α) (lb : List β) (st : St F) :
    ∀ a ∈ la, ∀ b ∈ lb, P a b (steps (fun a => steps (f a) lb) la st) := by
  intro a ha
  refine steps_all (fun a => steps (f a) lb) (P := fun a st => ∀ b ∈ lb, P a b st) ?_ ?_ la st a ha
  · exact fun a st => steps_all (f a) (P := P a) (h1 a) (fun b b' st => h2 a b a b' st) lb st
  · exact fun a a' st h b hb => steps_keep (f a) (Q := P a' b) (fun c st => h2 a c a' b st) lb st (h b hb)

theorem steps2_keep {β : Type} (f : α → β → St F → St F) {Q : St F → Prop} (h : ∀ a b st, Q st → Q (f a b st)) (la : List α) (lb : List β)
    (st : St F) (hst : Q st) : Q (steps (fun a => steps (f a) lb) la st) :=
  steps_keep _ (Q := Q) (fun a st hs => steps_keep (f a) (Q := Q) (h a) lb st hs) la st hst

end Lists

/-! ## Where the blocks lie, by coordinates -/

theorem mem_rDy {g g' : Fin 4} {b b' : Fin 7} {y : S128x256.Idx} (h : (rDy g b).emb y ∈ (rDy g' b').set) : g = g' ∧ b = b' := by
  rw [Rect.mem_set_unit] at h
  have h0 := h 0; have h1 := h 1
  have y0 : (y 0).val < 128 := (y 0).isLt
  have y1 : (y 1).val < 256 := (y 1).isLt
  simp only [Rect.emb_apply] at h0 h1
  simp at h0 h1
  constructor <;> apply Fin.ext <;> omega

theorem mem_rDs {b b' : Fin 7} {y : S8x256.Idx} (h : (rDs b).emb y ∈ (rDs b').set) : b = b' := by
  rw [Rect.mem_set_unit] at h
  have h1 := h 1
  have y1 : (y 1).val < 256 := (y 1).isLt
  simp only [Rect.emb_apply] at h1
  simp at h1
  apply Fin.ext; omega

theorem mem_rX {g g' : Fin 4} {j j' : Fin 40} {y : S128x128.Idx} (h : (rX g j).emb y ∈ (rX g' j').set) : g = g' ∧ j = j' := by
  rw [Rect.mem_set_unit] at h
  have h0 := h 0; have h1 := h 1
  have y0 : (y 0).val < 128 := (y 0).isLt
  have y1 : (y 1).val < 128 := (y 1).isLt
  simp only [Rect.emb_apply] at h0 h1
  simp at h0 h1
  constructor <;> apply Fin.ext <;> omega

theorem mem_rXs {j j' : Fin 40} {y : S8x128.Idx} (h : (rXs j).emb y ∈ (rXs j').set) : j = j' := by
  rw [Rect.mem_set_unit] at h
  have h1 := h 1
  have y1 : (y 1).val < 128 := (y 1).isLt
  simp only [Rect.emb_apply] at h1
  simp at h1
  apply Fin.ext; omega

theorem mem_rXw {h h' : Fin 2} {g g' : Fin 4} {b b' : Fin 8} {y : S1x128x128.Idx} (hm : (rXw h g b).emb y ∈ (rXw h' g' b').set) :
    g = g' ∧ b = b' := by
  rw [Rect.mem_set_unit] at hm
  have h0 := hm 1; have h1 := hm 2
  have y0 : (y 1).val < 128 := (y 1).isLt
  have y1 : (y 2).val < 128 := (y 2).isLt
  simp only [Rect.emb_apply] at h0 h1
  simp at h0 h1
  constructor <;> apply Fin.ext <;> omega

theorem mem_rDw {p p' : Fin 5} {y : S1024x1792.Idx} (h : (rDw p).emb y ∈ (rDw p').set) : p = p' := by
  rw [Rect.mem_set_unit] at h
  have h0 := h 0
  have y0 : (y 0).val < 1024 := (y 0).isLt
  simp only [Rect.emb_apply] at h0
  simp at h0
  apply Fin.ext; omega

/-! ## One block's stores -/

section Stores

variable (i : grid0.Coords) (X : Vec F S512x5120 .fp8e4m3) (FS : Vec F S512x40 .f32) (DY : Vec F S512x1792 .bf16)

/-- The row of the block of eight that token group `g` of this grid point writes. -/
def rowFin (i : grid0.Coords) (g : Fin 4) : Fin 8 := ⟨4 * ((i 0).val % 2) + g.val, by omega⟩

theorem rowOf_words : ∀ (k : Fin 32) (g : Fin 4) (r : Fin 8),
    (BitVec.ofNat 32 r.val = Scalar.addi (Scalar.muli (Scalar.remsi (BitVec.ofNat 32 k.val) 2#32) 4#32) (BitVec.ofNat 32 g.val))
      ↔ r.val = 4 * (k.val % 2) + g.val := by decide

theorem rowOf_eq (g : Fin 4) (r : Fin 8) : BitVec.ofNat 32 r.val = rowOf i g ↔ r = rowFin i g := by
  rw [Fin.ext_iff]
  exact rowOf_words (i 0) g r

theorem putRow_apply {n : ℕ} (L : Lanes n) (q : BitVec 32) (v : FVec F (Blk n) .bf16) (old : FVec F (Row8 n) .f32) (r : Fin 8) (l : Fin n) :
    putRow L q v old (ix2 r l) = if BitVec.ofNat 32 r.val = q then scale L v (ix2 0 l) else old (ix2 r l) := by
  unfold putRow
  generalize scale L v = sc
  have hl (h0 : n = 1 → 0 < n) : (if h : n = 1 then (⟨0, h0 h⟩ : Fin n) else l) = l := by
    split
    · next h => subst h; exact Subsingleton.elim _ _
    · rfl
  pointwise
  refine Eq.trans (congrArg (fun x => Scalar.select (IntOp.cmpi CmpIPredicate.eq (BitVec.ofNat 32 r.val) q) (sc (ix2 0 x)) (old (ix2 r l)))
    (hl _)) ?_
  by_cases e : BitVec.ofNat 32 r.val = q
  · subst e; simp [Scalar.select, IntOp.cmpi]
  · have hb : (BitVec.ofNat 32 r.val == q) = false := beq_eq_false_iff_ne.mpr e
    simp only [Scalar.select, IntOp.cmpi, hb, if_neg e]
    exact if_neg (by decide)

theorem dyStep_dq (g : Fin 4) (b : Fin 7) (st : St F) :
    (dyStep i DY g b st).dq = (rDy g b).overlay st.dq (codes lanes256 (dyIn DY g b)) := rfl
theorem dyStep_ds (g : Fin 4) (b : Fin 7) (st : St F) : (dyStep i DY g b st).ds
    = (rDs b).overlay st.ds (putRow lanes256 (rowOf i g) (dyIn DY g b) (fun x => st.ds ((rDs b).emb x))) := rfl
theorem dyStep_dyw (g : Fin 4) (b : Fin 7) (st : St F) : (dyStep i DY g b st).dyw
    = (rDy g b).overlay st.dyw (shapeCast S128x256 (wide lanes256 (dyIn DY g b)) shapeCasts_S128x256_S128x256) := rfl
theorem xStep_xq (p : Fin 5) (g : Fin 4) (b : Fin 8) (st : St F) :
    (xStep i X FS p g b st).xq = (rX g (col p b)).overlay st.xq (codes lanes128 (xAt X FS g (col p b))) := rfl
theorem xStep_xs (p : Fin 5) (g : Fin 4) (b : Fin 8) (st : St F) : (xStep i X FS p g b st).xs
    = (rXs (col p b)).overlay st.xs (putRow lanes128 (rowOf i g) (xAt X FS g (col p b)) (fun x => st.xs ((rXs (col p b)).emb x))) := rfl
theorem xStep_xw (p : Fin 5) (g : Fin 4) (b : Fin 8) (st : St F) : (xStep i X FS p g b st).xw
    = (rXw (half p) g b).overlay st.xw (shapeCast S1x128x128 (wide lanes128 (xAt X FS g (col p b))) shapeCasts_S128x128_S1x128x128) := rfl
theorem productStep_dw (p : Fin 5) (st : St F) : (productStep p st).dw
    = (rDw p).overlay st.dw (addf (shapeCast S1024x1792 (fun x => st.dw ((rDw p).emb x)) shapeCasts_S1024x1792_S1024x1792)
        (matmul dot_S512x1024_S512x1792_S1024x1792_0_0_1_1_n_n none
          (shapeCast S512x1024 (fun x => st.xw ((rXwHalf (half p)).emb x)) shapeCasts_S1x512x1024_S512x1024)
          (fun x => st.dyw (rDyw.emb x)) (constant S1024x1792 .f32 0x00000000#32))) := by
  unfold productStep; dsimp only

theorem dy_store {α : Type} (g g' : Fin 4) (b b' : Fin 7) (A : S512x1792.Idx → α) (w : S128x256.Idx → α) (y : S128x256.Idx) :
    (rDy g b).overlay A w ((rDy g' b').emb y) = if g = g' ∧ b = b' then w y else A ((rDy g' b').emb y) := by
  split
  · next e => obtain ⟨rfl, rfl⟩ := e; exact Rect.overlay_emb (rDy g b) A w y
  · next e =>
    refine Rect.overlay_of_not_mem (rDy g b) A w (fun hm => e ?_)
    have := mem_rDy hm; exact ⟨this.1.symm, this.2.symm⟩

theorem x_store {α : Type} (g g' : Fin 4) (b b' : Fin 40) (A : S512x5120.Idx → α) (w : S128x128.Idx → α) (y : S128x128.Idx) :
    (rX g b).overlay A w ((rX g' b').emb y) = if g = g' ∧ b = b' then w y else A ((rX g' b').emb y) := by
  split
  · next e => obtain ⟨rfl, rfl⟩ := e; exact Rect.overlay_emb (rX g b) A w y
  · next e =>
    refine Rect.overlay_of_not_mem (rX g b) A w (fun hm => e ?_)
    have := mem_rX hm; exact ⟨this.1.symm, this.2.symm⟩

theorem xw_store {α : Type} (h : Fin 2) (g g' : Fin 4) (b b' : Fin 8) (A : S2x512x1024.Idx → α) (w : S1x128x128.Idx → α) (y : S1x128x128.Idx) :
    (rXw h g b).overlay A w ((rXw h g' b').emb y) = if g = g' ∧ b = b' then w y else A ((rXw h g' b').emb y) := by
  split
  · next e => obtain ⟨rfl, rfl⟩ := e; exact Rect.overlay_emb (rXw h g b) A w y
  · next e =>
    refine Rect.overlay_of_not_mem (rXw h g b) A w (fun hm => e ?_)
    have := mem_rXw hm; exact ⟨this.1.symm, this.2.symm⟩

theorem dw_store {α : Type} (p p' : Fin 5) (A : S5120x1792.Idx → α) (w : S1024x1792.Idx → α) (y : S1024x1792.Idx) :
    (rDw p).overlay A w ((rDw p').emb y) = if p = p' then w y else A ((rDw p').emb y) := by
  split
  · next e => subst e; exact Rect.overlay_emb (rDw p) A w y
  · next e => exact Rect.overlay_of_not_mem (rDw p) A w (fun hm => e (mem_rDw hm).symm)

theorem ds_store (g : Fin 4) (b b' : Fin 7) (D : Vec F S8x1792 .f32) (v : FVec F S128x256 .bf16) (r : Fin 8) (l : Fin 256) :
    (rDs b).overlay D (putRow lanes256 (rowOf i g) v (fun x => D ((rDs b).emb x))) ((rDs b').emb (ix2 r l))
      = if b = b' ∧ r = rowFin i g then scale lanes256 v (ix2 0 l) else D ((rDs b').emb (ix2 r l)) := by
  by_cases e : b = b'
  · subst e
    refine (Rect.overlay_emb _ _ _ _).trans ?_
    refine (putRow_apply lanes256 _ _ _ r l).trans ?_
    simp only [rowOf_eq, true_and]
  · rw [Rect.overlay_of_not_mem _ _ _ (fun hm => e (mem_rDs hm).symm), if_neg (fun h => e h.1)]

theorem xs_store (g : Fin 4) (b b' : Fin 40) (D : Vec F S8x5120 .f32) (v : FVec F S128x128 .bf16) (r : Fin 8) (l : Fin 128) :
    (rXs b).overlay D (putRow lanes128 (rowOf i g) v (fun x => D ((rXs b).emb x))) ((rXs b').emb (ix2 r l))
      = if b = b' ∧ r = rowFin i g then scale lanes128 v (ix2 0 l) else D ((rXs b').emb (ix2 r l)) := by
  by_cases e : b = b'
  · subst e
    refine (Rect.overlay_emb _ _ _ _).trans ?_
    refine (putRow_apply lanes128 _ _ _ r l).trans ?_
    simp only [rowOf_eq, true_and]
  · rw [Rect.overlay_of_not_mem _ _ _ (fun hm => e (mem_rXs hm).symm), if_neg (fun h => e h.1)]

end Stores

/-! ## After the body -/

section After

variable (i : grid0.Coords) (X : Vec F S512x5120 .fp8e4m3) (FS : Vec F S512x40 .f32) (DY : Vec F S512x1792 .bf16) (st : St F)

theorem mem7 : ∀ b : Fin 7, b ∈ ([0, 1, 2, 3, 4, 5, 6] : List (Fin 7)) := by decide
theorem mem4 : ∀ b : Fin 4, b ∈ ([0, 1, 2, 3] : List (Fin 4)) := by decide
theorem mem8 : ∀ b : Fin 8, b ∈ ([0, 1, 2, 3, 4, 5, 6, 7] : List (Fin 8)) := by decide
theorem mem5 : ∀ b : Fin 5, b ∈ ([0, 1, 2, 3, 4] : List (Fin 5)) := by decide

/-- One pass: the blocks of `x` and the product. -/
def pass (p : Fin 5) (st : St F) : St F := productStep p (xSteps i X FS p st)

theorem bodySteps_eq : bodySteps i X FS DY st = steps (pass i X FS) [0, 1, 2, 3, 4] (dySteps i DY (zeroStep i st)) := rfl

theorem pass_keep {Q : St F → Prop} (hx : ∀ p g b st, Q st → Q (xStep i X FS p g b st)) (hp : ∀ p st, Q st → Q (productStep p st))
    (p : Fin 5) (st : St F) (h : Q st) : Q (pass i X FS p st) :=
  hp p _ (steps2_keep (fun g b => xStep i X FS p g b) (hx p) _ _ st h)

theorem dq_after_dy (g : Fin 4) (b : Fin 7) (y : S128x256.Idx) :
    (dySteps i DY st).dq ((rDy g b).emb y) = codes lanes256 (dyIn DY g b) y := by
  refine steps2_all (dyStep i DY) (P := fun g b st => ∀ y : S128x256.Idx, st.dq ((rDy g b).emb y) = codes lanes256 (dyIn DY g b) y)
    ?_ ?_ _ _ st g (mem4 g) b (mem7 b) y
  · intro g b st y
    rw [dyStep_dq, dy_store, if_pos ⟨rfl, rfl⟩]
  · intro g b g' b' st h y
    rw [dyStep_dq, dy_store]
    split
    · next e => obtain ⟨rfl, rfl⟩ := e; rfl
    · exact h y

theorem dyw_after_dy (g : Fin 4) (b : Fin 7) (y : S128x256.Idx) :
    (dySteps i DY st).dyw ((rDy g b).emb y) = wide lanes256 (dyIn DY g b) y := by
  have hc (g : Fin 4) (b : Fin 7) (y : S128x256.Idx) :
      shapeCast S128x256 (wide lanes256 (dyIn DY g b)) shapeCasts_S128x256_S128x256 y = wide lanes256 (dyIn DY g b) y := by
    generalize wide lanes256 (dyIn DY g b) = w
    pointwise
  refine steps2_all (dyStep i DY) (P := fun g b st => ∀ y : S128x256.Idx, st.dyw ((rDy g b).emb y) = wide lanes256 (dyIn DY g b) y)
    ?_ ?_ _ _ st g (mem4 g) b (mem7 b) y
  · intro g b st y
    rw [dyStep_dyw, dy_store, if_pos ⟨rfl, rfl⟩]; exact hc g b y
  · intro g b g' b' st h y
    rw [dyStep_dyw, dy_store]
    split
    · next e => obtain ⟨rfl, rfl⟩ := e; exact hc g b y
    · exact h y

theorem ds_after_dy (g : Fin 4) (b : Fin 7) (l : Fin 256) :
    (dySteps i DY st).ds ((rDs b).emb (ix2 (rowFin i g) l)) = scale lanes256 (dyIn DY g b) (ix2 0 l) := by
  refine steps2_all (dyStep i DY) (P := fun g b st => ∀ l : Fin 256, st.ds ((rDs b).emb (ix2 (rowFin i g) l))
    = scale lanes256 (dyIn DY g b) (ix2 0 l)) ?_ ?_ _ _ st g (mem4 g) b (mem7 b) l
  · intro g b st l
    rw [dyStep_ds, ds_store, if_pos ⟨rfl, rfl⟩]
  · intro g b g' b' st h l
    rw [dyStep_ds, ds_store]
    split
    · next e =>
      have hg : g = g' := Fin.ext (by have := congrArg Fin.val e.2; simp only [rowFin] at this; omega)
      obtain ⟨rfl, -⟩ := e; subst hg; rfl
    · exact h l

theorem ds_kept_dy (r : Fin 8) (hr : r.val / 4 ≠ (i 0).val % 2) (b : Fin 7) (l : Fin 256) :
    (dySteps i DY st).ds ((rDs b).emb (ix2 r l)) = st.ds ((rDs b).emb (ix2 r l)) := by
  refine steps2_keep (dyStep i DY) (Q := fun s => s.ds ((rDs b).emb (ix2 r l)) = st.ds ((rDs b).emb (ix2 r l))) ?_ _ _ st rfl
  intro g b' s h
  rw [dyStep_ds, ds_store, if_neg]; · exact h
  rintro ⟨-, e⟩
  have := congrArg Fin.val e; simp only [rowFin] at this; omega

/-- The codes of `dy` after the body. -/
theorem dq_after (g : Fin 4) (b : Fin 7) (y : S128x256.Idx) :
    (bodySteps i X FS DY st).dq ((rDy g b).emb y) = codes lanes256 (dyIn DY g b) y := by
  rw [bodySteps_eq]
  refine steps_keep (pass i X FS) (Q := fun s => s.dq ((rDy g b).emb y) = codes lanes256 (dyIn DY g b) y) ?_ _ _ (dq_after_dy i DY _ g b y)
  exact pass_keep i X FS (Q := fun s => s.dq ((rDy g b).emb y) = codes lanes256 (dyIn DY g b) y) (fun _ _ _ _ h => h) (fun _ _ h => h)

/-- The scales of `dy` after the body: this point's rows, -/
theorem ds_after (g : Fin 4) (b : Fin 7) (l : Fin 256) :
    (bodySteps i X FS DY st).ds ((rDs b).emb (ix2 (rowFin i g) l)) = scale lanes256 (dyIn DY g b) (ix2 0 l) := by
  rw [bodySteps_eq]
  refine steps_keep (pass i X FS) (Q := fun s => s.ds ((rDs b).emb (ix2 (rowFin i g) l)) = scale lanes256 (dyIn DY g b) (ix2 0 l)) ?_ _ _
    (ds_after_dy i DY _ g b l)
  exact pass_keep i X FS (Q := fun s => s.ds ((rDs b).emb (ix2 (rowFin i g) l)) = scale lanes256 (dyIn DY g b) (ix2 0 l))
    (fun _ _ _ _ h => h) (fun _ _ h => h)

theorem zero_ds : (zeroStep i st).ds = st.ds := by unfold zeroStep; split <;> rfl
theorem zero_xs : (zeroStep i st).xs = st.xs := by unfold zeroStep; split <;> rfl

/-- and the other rows as found. -/
theorem ds_kept (r : Fin 8) (hr : r.val / 4 ≠ (i 0).val % 2) (b : Fin 7) (l : Fin 256) :
    (bodySteps i X FS DY st).ds ((rDs b).emb (ix2 r l)) = st.ds ((rDs b).emb (ix2 r l)) := by
  rw [bodySteps_eq]
  refine steps_keep (pass i X FS) (Q := fun s => s.ds ((rDs b).emb (ix2 r l)) = st.ds ((rDs b).emb (ix2 r l))) ?_ _ _
    ((ds_kept_dy i DY _ r hr b l).trans (congrFun (zero_ds i st) _))
  exact pass_keep i X FS (Q := fun s => s.ds ((rDs b).emb (ix2 r l)) = st.ds ((rDs b).emb (ix2 r l))) (fun _ _ _ _ h => h) (fun _ _ h => h)

theorem col_inj {p p' : Fin 5} {b b' : Fin 8} (h : col p b = col p' b') : p = p' ∧ b = b' := by
  have := congrArg Fin.val h
  simp only [col] at this
  constructor <;> apply Fin.ext <;> omega

theorem exists_col (j : Fin 40) : ∃ (p : Fin 5) (b : Fin 8), col p b = j :=
  ⟨⟨j.val / 8, by omega⟩, ⟨j.val % 8, by omega⟩, Fin.ext (by simp only [col]; omega)⟩

/-- What a step over one block of `x` establishes for its block and no step destroys holds after the body. -/
theorem after_x {P : Fin 5 → Fin 4 → Fin 8 → St F → Prop} (h1 : ∀ p g b st, P p g b (xStep i X FS p g b st))
    (h2 : ∀ p g b p' g' b' st, P p' g' b' st → P p' g' b' (xStep i X FS p g b st)) (h3 : ∀ q p g b st, P p g b st → P p g b (productStep q st))
    (p : Fin 5) (g : Fin 4) (b : Fin 8) : P p g b (bodySteps i X FS DY st) := by
  rw [bodySteps_eq]
  refine steps_all (pass i X FS) (P := fun p st => ∀ g b, P p g b st) ?_ ?_ _ _ p (mem5 p) g b
  · intro p st g b
    exact h3 p p g b _ (steps2_all (fun g b => xStep i X FS p g b) (P := P p) (h1 p) (fun g b g' b' st => h2 p g b p g' b' st) _ _ st
      g (mem4 g) b (mem8 b))
  · intro q p st h g b
    exact pass_keep i X FS (Q := P p g b) (fun q g' b' st => h2 q g' b' p g b st) (fun q st => h3 q p g b st) q st (h g b)

/-- The codes of `x` after the body. -/
theorem xq_after (g : Fin 4) (j : Fin 40) (y : S128x128.Idx) :
    (bodySteps i X FS DY st).xq ((rX g j).emb y) = codes lanes128 (xAt X FS g j) y := by
  obtain ⟨p, b, rfl⟩ := exists_col j
  refine after_x i X FS DY st (P := fun p g b st => ∀ y : S128x128.Idx, st.xq ((rX g (col p b)).emb y) = codes lanes128 (xAt X FS g (col p b)) y)
    ?_ ?_ (fun _ _ _ _ _ h => h) p g b y
  · intro p g b st y
    rw [xStep_xq, x_store, if_pos ⟨rfl, rfl⟩]
  · intro p g b p' g' b' st h y
    rw [xStep_xq, x_store]
    split
    · next e => obtain ⟨rfl, e⟩ := e; obtain ⟨rfl, rfl⟩ := col_inj e; rfl
    · exact h y

/-- The scales of `x` after the body: this point's rows, -/
theorem xs_after (g : Fin 4) (j : Fin 40) (l : Fin 128) :
    (bodySteps i X FS DY st).xs ((rXs j).emb (ix2 (rowFin i g) l)) = scale lanes128 (xAt X FS g j) (ix2 0 l) := by
  obtain ⟨p, b, rfl⟩ := exists_col j
  refine after_x i X FS DY st (P := fun p g b st => ∀ l : Fin 128, st.xs ((rXs (col p b)).emb (ix2 (rowFin i g) l))
    = scale lanes128 (xAt X FS g (col p b)) (ix2 0 l)) ?_ ?_ (fun _ _ _ _ _ h => h) p g b l
  · intro p g b st l
    rw [xStep_xs, xs_store, if_pos ⟨rfl, rfl⟩]
  · intro p g b p' g' b' st h l
    rw [xStep_xs, xs_store]
    split
    · next e =>
      have hg : g = g' := Fin.ext (by have := congrArg Fin.val e.2; simp only [rowFin] at this; omega)
      obtain ⟨rfl, rfl⟩ := col_inj e.1; subst hg; rfl
    · exact h l

/-- and the other rows as found. -/
theorem xs_kept (r : Fin 8) (hr : r.val / 4 ≠ (i 0).val % 2) (j : Fin 40) (l : Fin 128) :
    (bodySteps i X FS DY st).xs ((rXs j).emb (ix2 r l)) = st.xs ((rXs j).emb (ix2 r l)) := by
  rw [bodySteps_eq]
  refine steps_keep (pass i X FS) (Q := fun s => s.xs ((rXs j).emb (ix2 r l)) = st.xs ((rXs j).emb (ix2 r l))) ?_ _ _ ?_
  · refine pass_keep i X FS (Q := fun s => s.xs ((rXs j).emb (ix2 r l)) = st.xs ((rXs j).emb (ix2 r l))) ?_ (fun _ _ h => h)
    intro p g b s h
    rw [xStep_xs, xs_store, if_neg]; · exact h
    rintro ⟨-, e⟩
    have := congrArg Fin.val e; simp only [rowFin] at this; omega
  · have e : (dySteps i DY (zeroStep i st)).xs = (zeroStep i st).xs :=
      steps2_keep (dyStep i DY) (Q := fun s => s.xs = (zeroStep i st).xs) (fun _ _ _ h => h) _ _ _ rfl
    rw [e, zero_xs]

/-- The widened `dy`, whole. -/
def dywAll (DY : Vec F S512x1792 .bf16) : Vec F S512x1792 .bf16 := fun j =>
  wide lanes256 (dyIn DY ⟨(j 0).val / 128, by have : (j 0).val < 512 := (j 0).isLt; omega⟩ ⟨(j 1).val / 256, by have : (j 1).val < 1792 := (j 1).isLt; omega⟩)
    (ix2 ⟨(j 0).val % 128, by omega⟩ ⟨(j 1).val % 256, by omega⟩)

/-- The widened `x` of pass `p`. -/
def xwAll (X : Vec F S512x5120 .fp8e4m3) (FS : Vec F S512x40 .f32) (p : Fin 5) : Vec F S1x512x1024 .bf16 := fun j =>
  wide lanes128 (xAt X FS ⟨(j 1).val / 128, by have : (j 1).val < 512 := (j 1).isLt; omega⟩
      (col p ⟨(j 2).val / 128, by have : (j 2).val < 1024 := (j 2).isLt; omega⟩))
    (ix2 ⟨(j 1).val % 128, by omega⟩ ⟨(j 2).val % 128, by omega⟩)

/-- The accumulator as the body's products find it: zero at the first grid point, as found at the others. -/
def dwFound (D : Vec F S5120x1792 .f32) : Vec F S5120x1792 .f32 :=
  if first i then broadcast S5120x1792 (Scalar.ofBits .f32 0x00000000#32) else D

theorem zero_dw : (zeroStep i st).dw = dwFound i st.dw := by
  unfold zeroStep dwFound
  split
  · funext j
    have e : rDwAll.emb j = j := by
      funext a; apply Fin.ext; rw [Rect.emb_apply]; fin_cases a <;> simp
    dsimp only
    generalize broadcast S5120x1792 (Scalar.ofBits (F := F) .f32 0x00000000#32) = w
    exact (congrArg (rDwAll.overlay st.dw w) e).symm.trans (Rect.overlay_emb rDwAll st.dw w j)
  · rfl

/-- The accumulator after the body: what the products found there, plus the product of the widened blocks. -/
theorem dw_after (p : Fin 5) (y : S1024x1792.Idx) :
    (bodySteps i X FS DY st).dw ((rDw p).emb y)
      = addf (shapeCast S1024x1792 (fun x => dwFound i st.dw ((rDw p).emb x)) shapeCasts_S1024x1792_S1024x1792)
          (matmul dot_S512x1024_S512x1792_S1024x1792_0_0_1_1_n_n none
            (shapeCast S512x1024 (xwAll X FS p) shapeCasts_S1x512x1024_S512x1024) (dywAll DY) (constant S1024x1792 .f32 0x00000000#32)) y := by
  rw [bodySteps_eq]
  refine steps_once (pass i X FS)
    (R := fun p s => (∀ y : S1024x1792.Idx, s.dw ((rDw p).emb y) = dwFound i st.dw ((rDw p).emb y))
      ∧ ∀ g b, ∀ y : S128x256.Idx, s.dyw ((rDy g b).emb y) = wide lanes256 (dyIn DY g b) y)
    (P := fun p s => ∀ y : S1024x1792.Idx, s.dw ((rDw p).emb y)
      = addf (shapeCast S1024x1792 (fun x => dwFound i st.dw ((rDw p).emb x)) shapeCasts_S1024x1792_S1024x1792)
          (matmul dot_S512x1024_S512x1792_S1024x1792_0_0_1_1_n_n none
            (shapeCast S512x1024 (xwAll X FS p) shapeCasts_S1x512x1024_S512x1024) (dywAll DY) (constant S1024x1792 .f32 0x00000000#32)) y)
    ?_ ?_ ?_ _ (by decide) _ ?_ p (mem5 p) y
  · intro p s ⟨hdw, hdyw⟩ y
    have hx : ∀ (g : Fin 4) (b : Fin 8) (y : S1x128x128.Idx), (xSteps i X FS p s).xw ((rXw (half p) g b).emb y)
        = shapeCast S1x128x128 (wide lanes128 (xAt X FS g (col p b))) shapeCasts_S128x128_S1x128x128 y := by
      intro g b
      refine steps2_all (fun g b => xStep i X FS p g b) (P := fun g b st => ∀ y : S1x128x128.Idx, st.xw ((rXw (half p) g b).emb y)
        = shapeCast S1x128x128 (wide lanes128 (xAt X FS g (col p b))) shapeCasts_S128x128_S1x128x128 y) ?_ ?_ _ _ s g (mem4 g) b (mem8 b)
      · intro g b st y
        rw [xStep_xw, xw_store, if_pos ⟨rfl, rfl⟩]
      · intro g b g' b' st h y
        rw [xStep_xw, xw_store]
        split
        · next e => obtain ⟨rfl, rfl⟩ := e; rfl
        · exact h y
    have hd1 : (xSteps i X FS p s).dw = s.dw :=
      steps2_keep (fun g b => xStep i X FS p g b) (Q := fun t => t.dw = s.dw) (fun _ _ _ h => h) _ _ s rfl
    have hd2 : (xSteps i X FS p s).dyw = s.dyw :=
      steps2_keep (fun g b => xStep i X FS p g b) (Q := fun t => t.dyw = s.dyw) (fun _ _ _ h => h) _ _ s rfl
    have e1 : (fun x => (xSteps i X FS p s).dw ((rDw p).emb x)) = fun x => dwFound i st.dw ((rDw p).emb x) := by
      funext x; rw [hd1]; exact hdw x
    have e2 : (fun x => (xSteps i X FS p s).xw ((rXwHalf (half p)).emb x)) = xwAll X FS p := by
      funext j
      have hj0 : (j 0).val < 1 := (j 0).isLt
      have hj1 : (j 1).val < 512 := (j 1).isLt
      have hj2 : (j 2).val < 1024 := (j 2).isLt
      have e : (rXwHalf (half p)).emb j = (rXw (half p) ⟨(j 1).val / 128, by omega⟩ ⟨(j 2).val / 128, by omega⟩).emb
          (ix3 0 ⟨(j 1).val % 128, by omega⟩ ⟨(j 2).val % 128, by omega⟩) := by
        funext a; apply Fin.ext; rw [Rect.emb_apply, Rect.emb_apply]
        fin_cases a
        · simp; omega
        · simp; omega
        · simp; omega
      refine (congrArg (xSteps i X FS p s).xw e).trans ((hx _ _ _).trans ?_)
      unfold xwAll
      generalize wide lanes128 (xAt X FS _ _) = w
      pointwise
    have e3 : (fun x : S512x1792.Idx => (xSteps i X FS p s).dyw (rDyw.emb x)) = dywAll DY := by
      funext j
      have hj0 : (j 0).val < 512 := (j 0).isLt
      have hj1 : (j 1).val < 1792 := (j 1).isLt
      have e : rDyw.emb j = (rDy ⟨(j 0).val / 128, by omega⟩ ⟨(j 1).val / 256, by omega⟩).emb
          (ix2 ⟨(j 0).val % 128, by omega⟩ ⟨(j 1).val % 256, by omega⟩) := by
        funext a; apply Fin.ext; rw [Rect.emb_apply, Rect.emb_apply]
        fin_cases a
        · simp; omega
        · simp; omega
      rw [hd2]
      exact (congrArg s.dyw e).trans (hdyw _ _ _)
    show (productStep p (xSteps i X FS p s)).dw _ = _
    rw [productStep_dw, dw_store, if_pos rfl, e1, e2, e3]
  · intro p p' s hne h y
    show (productStep p (xSteps i X FS p s)).dw _ = _
    rw [productStep_dw, dw_store, if_neg hne]
    exact steps2_keep (fun g b => xStep i X FS p g b) (Q := fun t => t.dw ((rDw p').emb y) = _) (fun _ _ _ h => h) _ _ s (h y)
  · intro p p' s hne ⟨h, h'⟩
    refine ⟨fun y => ?_, fun g b y => ?_⟩
    · show (productStep p (xSteps i X FS p s)).dw _ = _
      rw [productStep_dw, dw_store, if_neg hne]
      exact steps2_keep (fun g b => xStep i X FS p g b) (Q := fun t => t.dw ((rDw p').emb y) = _) (fun _ _ _ h => h) _ _ s (h y)
    · exact pass_keep i X FS (Q := fun t => t.dyw ((rDy g b).emb y) = wide lanes256 (dyIn DY g b) y) (fun _ _ _ _ h => h) (fun _ _ h => h) p s
        (h' g b y)
  · intro p _
    refine ⟨fun y => ?_, fun g b y => dyw_after_dy i DY _ g b y⟩
    have e : (dySteps i DY (zeroStep i st)).dw = (zeroStep i st).dw :=
      steps2_keep (dyStep i DY) (Q := fun s => s.dw = (zeroStep i st).dw) (fun _ _ _ h => h) _ _ _ rfl
    rw [e, zero_dw]

end After

end Cert.KernelIdeal.Hand

end
-- ==== Proof.BodyEq.lean ====
/- The printed body is the program over blocks, by definitional unfolding. -/
module

public import proofs.«01_k».proof.Proof.Blocks

@[expose] public section

noncomputable section

namespace Cert.KernelIdeal.Hand

open Idealize.ShloMosaic Idealize.SL.Sem Cert.KernelIdeal Cert.KernelIdeal.Gen

variable {F : FTy → Type} [FloatOps F]

/-- Two programs whose next request is the same and whose continuations agree are equal. -/
theorem op_congr {E : Type → Type*} {α β : Type} {e e' : E β} {k k' : β → Prog E α} (he : e = e') (hk : ∀ x, k x = k' x) :
    Prog.op e k = Prog.op e' k' := by
  subst he; exact congrArg _ (funext hk)

variable (i : grid0.Coords) (arg1 : Memref sig .tc .vmem S512x5120 .fp8e4m3) (harg1 : arg1.IsWhole)
    (arg2 : Memref sig .tc .vmem S512x40 .f32) (harg2 : arg2.IsWhole) (arg3 : Memref sig .tc .vmem S512x1792 .bf16) (harg3 : arg3.IsWhole)
    (arg4 : Memref sig .tc .vmem S5120x1792 .f32) (harg4 : arg4.IsWhole) (arg5 : Memref sig .tc .vmem S512x5120 .fp8e4m3) (harg5 : arg5.IsWhole)
    (arg6 : Memref sig .tc .vmem S8x5120 .f32) (harg6 : arg6.IsWhole) (arg7 : Memref sig .tc .vmem S512x1792 .fp8e4m3) (harg7 : arg7.IsWhole)
    (arg8 : Memref sig .tc .vmem S8x1792 .f32) (harg8 : arg8.IsWhole) (arg9 : Memref sig .tc .vmem S2x512x1024 .bf16) (harg9 : arg9.IsWhole)
    (arg10 : Memref sig .tc .vmem S512x1792 .bf16) (harg10 : arg10.IsWhole)

set_option maxRecDepth 100000 in
set_option maxHeartbeats 0 in
/-- At the first grid point: the accumulator is zeroed. -/
theorem body_eq_pos (h : first i) :
    cc0_weight_grad (F := F) i arg1 harg1 arg2 harg2 arg3 harg3 arg4 harg4 arg5 harg5 arg6 harg6 arg7 harg7 arg8 harg8 arg9 harg9 arg10 harg10
      = body i arg1 arg2 arg3 arg4 arg5 harg5 arg6 arg7 harg7 arg8 arg9 harg9 arg10 harg10 := by
  unfold cc0_weight_grad k0_part307 k0_part1 body zeroAcc
  simp only [dif_pos h]
  repeat (refine op_congr rfl fun _ => ?_)
  rfl

set_option maxRecDepth 100000 in
set_option maxHeartbeats 0 in
/-- At every other grid point. -/
theorem body_eq_neg (h : ¬ first i) :
    cc0_weight_grad (F := F) i arg1 harg1 arg2 harg2 arg3 harg3 arg4 harg4 arg5 harg5 arg6 harg6 arg7 harg7 arg8 harg8 arg9 harg9 arg10 harg10
      = body i arg1 arg2 arg3 arg4 arg5 harg5 arg6 arg7 harg7 arg8 arg9 harg9 arg10 harg10 := by
  unfold cc0_weight_grad k0_part307 k0_part1 body zeroAcc
  simp only [dif_neg h]
  repeat (refine op_congr rfl fun _ => ?_)
  rfl

/-- The printed body is the program over blocks. -/
theorem body_eq :
    cc0_weight_grad (F := F) i arg1 harg1 arg2 harg2 arg3 harg3 arg4 harg4 arg5 harg5 arg6 harg6 arg7 harg7 arg8 harg8 arg9 harg9 arg10 harg10
      = body i arg1 arg2 arg3 arg4 arg5 harg5 arg6 arg7 harg7 arg8 arg9 harg9 arg10 harg10 := by
  by_cases h : first i
  · exact body_eq_pos i arg1 harg1 arg2 harg2 arg3 harg3 arg4 harg4 arg5 harg5 arg6 harg6 arg7 harg7 arg8 harg8 arg9 harg9 arg10 harg10 h
  · exact body_eq_neg i arg1 harg1 arg2 harg2 arg3 harg3 arg4 harg4 arg5 harg5 arg6 harg6 arg7 harg7 arg8 harg8 arg9 harg9 arg10 harg10 h

end Cert.KernelIdeal.Hand

end
-- ==== Proof.Run.lean ====
/- The kernel's run: what each grid point leaves in each output's buffer, as a relation to what it found there, the body's
   obligation, and the run to what the arrays may then hold. -/
module

public import proofs.«01_k».proof.Proof.ReadBack
public import proofs.«01_k».proof.Proof.BodyEq
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The blocks the point reads. -/
def bX (c : Dev nD) (t : Fin cfg0.N) : Vec F S512x5120 .fp8e4m3 := iblk m c 0 t
def bFS (c : Dev nD) (t : Fin cfg0.N) : Vec F S512x40 .f32 := iblk m c 1 t
def bDY (c : Dev nD) (t : Fin cfg0.N) : Vec F S512x1792 .bf16 := iblk m c 2 t

/-- Any contents for the scratch buffer of `x`. -/
def bXw (c : Dev nD) (t : Fin cfg0.N) : Vec F S2x512x1024 .bf16 := fun _ => bDY m c t (ix2 0 0)

/-- The accumulator `D` as found becomes `D'`. -/
def LeavesDw (i : grid0.Coords) (X : Vec F S512x5120 .fp8e4m3) (FS : Vec F S512x40 .f32) (DY : Vec F S512x1792 .bf16)
    (D D' : Vec F S5120x1792 .f32) : Prop :=
  ∀ (p : Fin 5) (y : S1024x1792.Idx), D' ((rDw p).emb y)
    = addf (shapeCast S1024x1792 (fun x => dwFound i D ((rDw p).emb x)) shapeCasts_S1024x1792_S1024x1792)
        (matmul dot_S512x1024_S512x1792_S1024x1792_0_0_1_1_n_n none
          (shapeCast S512x1024 (xwAll X FS p) shapeCasts_S1x512x1024_S512x1024) (dywAll DY) (constant S1024x1792 .f32 0x00000000#32)) y

/-- The codes of `x` are `C`. -/
def LeavesXq (X : Vec F S512x5120 .fp8e4m3) (FS : Vec F S512x40 .f32) (C : Vec F S512x5120 .fp8e4m3) : Prop :=
  ∀ (g : Fin 4) (j : Fin 40) (y : S128x128.Idx), C ((rX g j).emb y) = codes lanes128 (xAt X FS g j) y

/-- The codes of `dy` are `C`. -/
def LeavesDq (DY : Vec F S512x1792 .bf16) (C : Vec F S512x1792 .fp8e4m3) : Prop :=
  ∀ (g : Fin 4) (b : Fin 7) (y : S128x256.Idx), C ((rDy g b).emb y) = codes lanes256 (dyIn DY g b) y

/-- The scales of `x`: this point's rows new, the others as found. -/
def LeavesXs (i : grid0.Coords) (X : Vec F S512x5120 .fp8e4m3) (FS : Vec F S512x40 .f32) (D D' : Vec F S8x5120 .f32) : Prop :=
  (∀ (g : Fin 4) (j : Fin 40) (l : Fin 128), D' ((rXs j).emb (ix2 (rowFin i g) l)) = scale lanes128 (xAt X FS g j) (ix2 0 l))
    ∧ ∀ r : Fin 8, r.val / 4 ≠ (i 0).val % 2 → ∀ (j : Fin 40) (l : Fin 128), D' ((rXs j).emb (ix2 r l)) = D ((rXs j).emb (ix2 r l))

/-- The scales of `dy`: this point's rows new, the others as found. -/
def LeavesDs (i : grid0.Coords) (DY : Vec F S512x1792 .bf16) (D D' : Vec F S8x1792 .f32) : Prop :=
  (∀ (g : Fin 4) (b : Fin 7) (l : Fin 256), D' ((rDs b).emb (ix2 (rowFin i g) l)) = scale lanes256 (dyIn DY g b) (ix2 0 l))
    ∧ ∀ r : Fin 8, r.val / 4 ≠ (i 0).val % 2 → ∀ (b : Fin 7) (l : Fin 256), D' ((rDs b).emb (ix2 r l)) = D ((rDs b).emb (ix2 r l))

section Steps

variable (i : grid0.Coords) (X : Vec F S512x5120 .fp8e4m3) (FS : Vec F S512x40 .f32) (DY : Vec F S512x1792 .bf16) (st : St F)

theorem leavesDw_steps : LeavesDw i X FS DY st.dw (bodySteps i X FS DY st).dw := fun p y => dw_after i X FS DY st p y
theorem leavesXq_steps : LeavesXq X FS (bodySteps i X FS DY st).xq := fun g j y => xq_after i X FS DY st g j y
theorem leavesDq_steps : LeavesDq DY (bodySteps i X FS DY st).dq := fun g b y => dq_after i X FS DY st g b y
theorem leavesXs_steps : LeavesXs i X FS st.xs (bodySteps i X FS DY st).xs :=
  ⟨fun g j l => xs_after i X FS DY st g j l, fun r hr j l => xs_kept i X FS DY st r hr j l⟩
theorem leavesDs_steps : LeavesDs i DY st.ds (bodySteps i X FS DY st).ds :=
  ⟨fun g b l => ds_after i X FS DY st g b l, fun r hr b l => ds_kept i X FS DY st r hr b l⟩

end Steps

/-- The pipeline's data: the arrays as the region finds them, and what a point leaves. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => LeavesDw (grid0.coords t) (bX m c t) (bFS m c t) (bDY m c t) Y X
    | ⟨4, _⟩ => fun _ X => LeavesXq (bX m c t) (bFS m c t) X
    | ⟨5, _⟩ => fun Y X => LeavesXs (grid0.coords t) (bX m c t) (bFS m c t) Y X
    | ⟨6, _⟩ => fun _ X => LeavesDq (bDY m c t) X
    | ⟨7, _⟩ => fun Y X => LeavesDs (grid0.coords t) (bDY m c t) Y X
  Φ _ := Pipeline.ΦA spec0 c
  q _ := fullShare
  owed _ := 0

theorem A_eq (c : Dev nD) (w : Fin cfg0.W) : (rdat m c).A w = V m c (Pipeline.arrRef spec0 w) := by
  dsimp only [rdat]

theorem after_3 (c : Dev nD) (t : Fin cfg0.N) (Y X) :
    (rdat m c).after 3 t Y X = LeavesDw (grid0.coords t) (bX m c t) (bFS m c t) (bDY m c t) Y X := rfl
theorem after_4 (c : Dev nD) (t : Fin cfg0.N) (Y X) : (rdat m c).after 4 t Y X = LeavesXq (bX m c t) (bFS m c t) X := rfl
theorem after_5 (c : Dev nD) (t : Fin cfg0.N) (Y X) :
    (rdat m c).after 5 t Y X = LeavesXs (grid0.coords t) (bX m c t) (bFS m c t) Y X := rfl
theorem after_6 (c : Dev nD) (t : Fin cfg0.N) (Y X) : (rdat m c).after 6 t Y X = LeavesDq (bDY m c t) X := rfl
theorem after_7 (c : Dev nD) (t : Fin cfg0.N) (Y X) : (rdat m c).after 7 t Y X = LeavesDs (grid0.coords t) (bDY m c t) Y X := rfl

/-- The inputs' buffers hold their blocks. -/
theorem finds_0 (c : Dev nD) (t : Fin cfg0.N) (Y) (h : (rdat m c).Finds 0 t Y) : Y = bX m c t := by
  obtain ⟨d, rfl⟩ := ((rdat m c).finds_of_fetch (fetch0_0 t) Y).mp h
  unfold RDat.fetched RDat.blockOf bX iblk; rw [A_eq]; rfl
theorem finds_1 (c : Dev nD) (t : Fin cfg0.N) (Y) (h : (rdat m c).Finds 1 t Y) : Y = bFS m c t := by
  obtain ⟨d, rfl⟩ := ((rdat m c).finds_of_fetch (fetch0_1 t) Y).mp h
  unfold RDat.fetched RDat.blockOf bFS iblk; rw [A_eq]; rfl
theorem finds_2 (c : Dev nD) (t : Fin cfg0.N) (Y) (h : (rdat m c).Finds 2 t Y) : Y = bDY m c t := by
  obtain ⟨d, rfl⟩ := ((rdat m c).finds_of_fetch (fetch0_2 t) Y).mp h
  unfold RDat.fetched RDat.blockOf bDY iblk; rw [A_eq]; rfl

/-! ## The body's obligation -/

abbrev ms0_0 (t : Fin cfg0.N) : Memref sig .tc .vmem S512x5120 .fp8e4m3 := win0_0.stage (cfg0.slots t 0)
abbrev ms0_1 (t : Fin cfg0.N) : Memref sig .tc .vmem S512x40 .f32 := win0_1.stage (cfg0.slots t 1)
abbrev ms0_2 (t : Fin cfg0.N) : Memref sig .tc .vmem S512x1792 .bf16 := win0_2.stage (cfg0.slots t 2)
abbrev ms0_3 (t : Fin cfg0.N) : Memref sig .tc .vmem S5120x1792 .f32 := win0_3.stage (cfg0.slots t 3)
abbrev ms0_4 (t : Fin cfg0.N) : Memref sig .tc .vmem S512x5120 .fp8e4m3 := win0_4.stage (cfg0.slots t 4)
abbrev ms0_5 (t : Fin cfg0.N) : Memref sig .tc .vmem S8x5120 .f32 := win0_5.stage (cfg0.slots t 5)
abbrev ms0_6 (t : Fin cfg0.N) : Memref sig .tc .vmem S512x1792 .fp8e4m3 := win0_6.stage (cfg0.slots t 6)
abbrev ms0_7 (t : Fin cfg0.N) : Memref sig .tc .vmem S8x1792 .f32 := win0_7.stage (cfg0.slots t 7)
abbrev scM0_0 : Memref sig .tc .vmem S2x512x1024 .bf16 := Memref.whole cc0_scratch0
abbrev scM0_1 : Memref sig .tc .vmem S512x1792 .bf16 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

theorem defs₀_row (t : Fin cfg0.N) :
    defs₀ (F := F) .tc cfg0.body (cfg0.bodyArgs t (cfg0.slots t)) = bodyAt0 t := by
  unfold defs₀; rw [Defs.onTc_tc]

/-- What the body is called with at point `t`, window by window, -/
def bodyPre (c : Dev nD) (t : Fin cfg0.N) (st : St F) : sProp 𝕄 :=
  iprop(Pipeline.ΦA spec0 c ∗ (rdat m c).owesAt () t.castSucc
    ∗ owns (c : Thread nD τ) (ms0_0 t) fullShare (bX m c t)
    ∗ owns (c : Thread nD τ) (ms0_1 t) fullShare (bFS m c t)
    ∗ owns (c : Thread nD τ) (ms0_2 t) fullShare (bDY m c t)
    ∗ owns (c : Thread nD τ) (ms0_3 t) fullShare st.dw
    ∗ owns (c : Thread nD τ) (ms0_4 t) fullShare st.xq
    ∗ owns (c : Thread nD τ) (ms0_5 t) fullShare st.xs
    ∗ owns (c : Thread nD τ) (ms0_6 t) fullShare st.dq
    ∗ owns (c : Thread nD τ) (ms0_7 t) fullShare st.ds)

/-- and what it returns. -/
def bodyPost (c : Dev nD) (t : Fin cfg0.N) (st : St F) : sProp 𝕄 :=
  iprop(Pipeline.ΦA spec0 c ∗ (rdat m c).owesAt () t.castSucc
    ∗ (∃ X, ⌜X = bX m c t⌝ ∗ owns (c : Thread nD τ) (ms0_0 t) fullShare X)
    ∗ (∃ X, ⌜X = bFS m c t⌝ ∗ owns (c : Thread nD τ) (ms0_1 t) fullShare X)
    ∗ (∃ X, ⌜X = bDY m c t⌝ ∗ owns (c : Thread nD τ) (ms0_2 t) fullShare X)
    ∗ (∃ X, ⌜LeavesDw (grid0.coords t) (bX m c t) (bFS m c t) (bDY m c t) st.dw X⌝ ∗ owns (c : Thread nD τ) (ms0_3 t) fullShare X)
    ∗ (∃ X, ⌜LeavesXq (bX m c t) (bFS m c t) X⌝ ∗ owns (c : Thread nD τ) (ms0_4 t) fullShare X)
    ∗ (∃ X, ⌜LeavesXs (grid0.coords t) (bX m c t) (bFS m c t) st.xs X⌝ ∗ owns (c : Thread nD τ) (ms0_5 t) fullShare X)
    ∗ (∃ X, ⌜LeavesDq (bDY m c t) X⌝ ∗ owns (c : Thread nD τ) (ms0_6 t) fullShare X)
    ∗ (∃ X, ⌜LeavesDs (grid0.coords t) (bDY m c t) st.ds X⌝ ∗ owns (c : Thread nD τ) (ms0_7 t) fullShare X))

set_option maxHeartbeats 1600000 in
theorem sound_body (c : Dev nD) (t : Fin cfg0.N) (st : St F) :
    bodyPre m c t st ⊢ wp frame (wpE (defs₀ (F := F)) Variants.none c none) Set.univ (bodyAt0 t) (fun _ => bodyPost m c t st) := by
  unfold bodyPre bodyPost bodyAt0
  rw [body_eq, PhiA0_eq]
  iintro ⟨⟨⟨⟨%d9, HS0⟩, ⟨%d10, HS1⟩⟩, Hg⟩, Ho, H0, H1, H2, H3, H4, H5, H6, H7⟩
  have hdw : LeavesDw (grid0.coords t) (bX m c t) (bFS m c t) (bDY m c t) st.dw _ :=
    leavesDw_steps (grid0.coords t) (bX m c t) (bFS m c t) (bDY m c t) ⟨st.dw, st.xq, st.xs, st.dq, st.ds, d9, d10⟩
  have hxq := leavesXq_steps (grid0.coords t) (bX m c t) (bFS m c t) (bDY m c t) ⟨st.dw, st.xq, st.xs, st.dq, st.ds, d9, d10⟩
  have hdq := leavesDq_steps (grid0.coords t) (bX m c t) (bFS m c t) (bDY m c t) ⟨st.dw, st.xq, st.xs, st.dq, st.ds, d9, d10⟩
  have hxs : LeavesXs (grid0.coords t) (bX m c t) (bFS m c t) st.xs _ :=
    leavesXs_steps (grid0.coords t) (bX m c t) (bFS m c t) (bDY m c t) ⟨st.dw, st.xq, st.xs, st.dq, st.ds, d9, d10⟩
  have hds : LeavesDs (grid0.coords t) (bDY m c t) st.ds _ :=
    leavesDs_steps (grid0.coords t) (bX m c t) (bFS m c t) (bDY m c t) ⟨st.dw, st.xq, st.xs, st.dq, st.ds, d9, d10⟩
  have hbody := does_body (c := c) (arg1 := ms0_0 t) (arg2 := ms0_1 t) (arg3 := ms0_2 t) (arg4 := ms0_3 t) (arg5 := ms0_4 t) (arg6 := ms0_5 t)
    (arg7 := ms0_6 t) (arg8 := ms0_7 t) (arg9 := scM0_0) (arg10 := scM0_1) (X := bX m c t) (FS := bFS m c t) (DY := bDY m c t)
    (grid0.coords t) (hstage0_4 ((cfg0.slots t 4).cast nbuf0_4)) (hstage0_6 ((cfg0.slots t 6).cast nbuf0_6)) (Memref.isWhole_whole _)
    (Memref.isWhole_whole _) Set.univ (fun _ => bodyPost m c t st) ⟨st.dw, st.xq, st.xs, st.dq, st.ds, d9, d10⟩
  generalize bodySteps (grid0.coords t) (bX m c t) (bFS m c t) (bDY m c t) ⟨st.dw, st.xq, st.xs, st.dq, st.ds, d9, d10⟩ = s' at hdw hxq hdq hxs hds hbody
  unfold bodyPost at hbody
  rw [PhiA0_eq] at hbody
  iapply hbody
  unfold Hold
  dsimp only
  isplitl [H0 H1 H2 H3 H4 H5 H6 H7 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iexact HS1
  iintro ⟨H0, H1, H2, H3, H4, H5, H6, H7, HS0, HS1⟩
  isplitl [HS0 HS1 Hg]
  · isplitl [HS0 HS1]
    · isplitl [HS0]
      · iexists _; iexact HS0
      iexists _; iexact HS1
    iexact Hg
  isplitl [Ho]; · iexact Ho
  isplitl [H0]
  · iexists (bX m c t); isplitr [H0]; · ipureintro; rfl
    iexact H0
  isplitl [H1]
  · iexists (bFS m c t); isplitr [H1]; · ipureintro; rfl
    iexact H1
  isplitl [H2]
  · iexists (bDY m c t); isplitr [H2]; · ipureintro; rfl
    iexact H2
  isplitl [H3]
  · iexists s'.dw; isplitr [H3]; · ipureintro; exact hdw
    iexact H3
  isplitl [H4]
  · iexists s'.xq; isplitr [H4]; · ipureintro; exact hxq
    iexact H4
  isplitl [H5]
  · iexists s'.xs; isplitr [H5]; · ipureintro; exact hxs
    iexact H5
  isplitl [H6]
  · iexists s'.dq; isplitr [H6]; · ipureintro; exact hdq
    iexact H6
  · iexists s'.ds; isplitr [H7]; · ipureintro; exact hds
    iexact H7

/-- The library's body obligation, at every point. -/
theorem body_obligation (c : Dev nD) : (rdat (F := F) m c).BodyObligation (defs₀ (F := F)) Variants.none () Set.univ := by
  intro t Y hY
  have e0 := finds_0 m c t _ (hY 0)
  have e1 := finds_1 m c t _ (hY 1)
  have e2 := finds_2 m c t _ (hY 2)
  rw [bigSep_W0, bigSep_W0, defs₀_row, e0, e1, e2]
  exact triple_restated (sound_body m c t ⟨Y 3, Y 4, Y 5, Y 6, Y 7, bXw m c t, bDY m c t⟩)
    rfl .rfl fun _ => .rfl

set_option backward.isDefEq.respectTransparency.types false in
/-- The run: it ends, every counter at zero, with the arrays at contents they may hold. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m) (hΦ := fun _ _ => rfl)

/-- The argument arrays end as they began. -/
theorem args_of_post {r : PUnit × MemSt nD τ sig (Elt F)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.KernelIdeal.Hand

end
-- ==== Proof.Frames.lean ====
/- The kernel's run ends with its arguments unchanged and every counter at zero: at any floats, for each of the two printed texts. -/
module

public import proofs.«01_k».proof.Proof.Run
public import proofs.«01_k».proof.Proof.Gen.Kernel
public import proofs.«01_k».proof.Defs

@[expose] public section

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F]

/-- The run ends with the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args_of_post m h.1 c, h.2⟩) (run_main m ρ)

end Cert.KernelIdeal.Hand

namespace Cert.Kernel.Hand

open Idealize.ShloMosaic Idealize.ShloMosaic.TcCoe Idealize.SL.Sem Cert.Kernel Cert.Kernel.Gen

/-! The program read at bit patterns and the one read at the extended reals are one text, so each definition of the one is
    the other's by unfolding. -/

theorem sig_eq : @Cert.Kernel.sig = @Cert.KernelIdeal.sig := rfl

variable {F : FTy → Type} [FloatOps F]

theorem body_eq : @Cert.Kernel.cc0_weight_grad F _ Cert.Kernel.Gen.facts = @Cert.KernelIdeal.cc0_weight_grad F _ Cert.KernelIdeal.Gen.facts := rfl

theorem cfg_eq : @Cert.Kernel.cfg0 Cert.Kernel.Gen.facts = @Cert.KernelIdeal.cfg0 Cert.KernelIdeal.Gen.facts := rfl

theorem main_eq : @Cert.Kernel.main F Cert.Kernel.Gen.facts = @Cert.KernelIdeal.main F Cert.KernelIdeal.Gen.facts := rfl

theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun x => funext fun y => ?_)
  match x, y with
  | 0, (t, s) => rfl
  | ⟨_ + 1, h⟩, _ => exact absurd h (Nat.not_lt.2 (Nat.le_add_left _ _))

theorem defs_eq : @Cert.Kernel.defs F _ Cert.Kernel.Gen.facts = @Cert.KernelIdeal.defs F _ Cert.KernelIdeal.Gen.facts := by
  unfold Cert.Kernel.defs Cert.KernelIdeal.defs
  rw [defs₀_eq]
  rfl

/-- A run of one of two equal programs is a run of the other. -/
theorem run_of_eq {Λ : Labels} {d d' : Defs nD τ sig (Elt F) Λ} (hd : d = d') {p p' : Dev nD → Prog (TpuEff nD τ sig (Elt F) Λ .tc) PUnit} (hp : p = p')
    {s : MemSt nD τ sig (Elt F)} {Q : PUnit × MemSt nD τ sig (Elt F) → Prop} (h : θ_run d' (onTc (τ := τ) p') s Q) : θ_run d (onTc (τ := τ) p) s Q := by
  subst hd hp
  exact h

/-- The run ends with the arguments unchanged and every counter at zero. -/
theorem frame (m : (ℓ : Loc nD τ sig) → Buf (Elt F) ℓ) (ρ : Dev nD → PrngReg) :
    θ_run (@Cert.Kernel.defs F _ Cert.Kernel.Gen.facts) (onTc (τ := τ) (@Cert.Kernel.main F Cert.Kernel.Gen.facts)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  run_of_eq defs_eq main_eq (Cert.KernelIdeal.Hand.frame m ρ)

end Cert.Kernel.Hand

end
-- ==== Proof.Scale.lean ====
/- The problem's quantiser on one column of 128 values, in extended reals, and the equation on which the kernel rests: an
   exponent counted on a ladder of powers of two is the floor of the logarithm plus one. -/
module

public import Idealize.ShloMosaic.PureOps.Ideal
public import Idealize.ShloMosaic.PureOps.Ideal.Laws
public import Mathlib.Analysis.SpecialFunctions.Log.Basic
public import Mathlib.Data.Fintype.Fin

@[expose] public section

noncomputable section

namespace Cert.Quant

open Idealize.ShloMosaic

/-! ## The quantiser of one column -/

/-- The largest magnitude of a column. -/
def amax (v : Fin 128 → EReal) : EReal := (Finset.univ : Finset (Fin 128)).fold max ⊥ fun r => max (v r) (-(v r))

/-- That over 448. -/
def ratio (v : Fin 128 → EReal) : EReal := amax v * Ideal.ofBits .f32 0x3B124925#32

/-- The exponent of the least power of two above `y`; zero below the least normal number. -/
def expo (y : EReal) : EReal :=
  if y < Ideal.ofBits .f32 0x00800000#32 then Ideal.ofBits .f32 0x00000000#32
  else min (Ideal.liftRound Int.floor (Ideal.div (Ideal.log y) (Ideal.log (Ideal.ofBits .f32 0x40000000#32)))
    + Ideal.ofBits .f32 0x3F800000#32) (Ideal.ofBits .f32 0x42FC0000#32)

/-- The column's scale. -/
def scale (v : Fin 128 → EReal) : EReal := Ideal.exp2 (expo (ratio v))

/-- Its inverse. -/
def inv (v : Fin 128 → EReal) : EReal := Ideal.exp2 (Ideal.ofBits .f32 0x00000000#32 - expo (ratio v))

/-- The column's code at `r`. -/
def code (v : Fin 128 → EReal) (r : Fin 128) : EReal :=
  min (Ideal.ofBits .f32 0x43E00000#32) (max (Ideal.ofBits .f32 0xC3E00000#32) (v r * inv v))

/-- The code times the scale. -/
def wide (v : Fin 128 → EReal) (r : Fin 128) : EReal := code v r * scale v

/-! ## Powers of two as bit patterns -/

theorem pow_bits (e : ℕ) (h1 : 1 ≤ e) (h2 : e ≤ 254) :
    Ideal.ofBits .f32 (BitVec.ofNat 32 e <<< 23) = (((2 : ℝ) ^ ((e : ℤ) - 127) : ℝ) : EReal) := by
  have hex : ((BitVec.ofNat 32 e <<< 23).extractLsb' 23 8).toNat = e := by
    simp only [BitVec.extractLsb'_toNat, BitVec.toNat_shiftLeft, BitVec.toNat_ofNat, Nat.shiftLeft_eq, Nat.shiftRight_eq_div_pow]
    omega
  have hfr : ((BitVec.ofNat 32 e <<< 23).extractLsb' 0 23).toNat = 0 := by
    simp only [BitVec.extractLsb'_toNat, BitVec.toNat_shiftLeft, BitVec.toNat_ofNat, Nat.shiftLeft_eq, Nat.shiftRight_eq_div_pow]
    omega
  have hneg : (BitVec.ofNat 32 e <<< 23).extractLsb' (8 + 23) 1 = 0#1 := by
    apply BitVec.eq_of_toNat_eq
    simp only [BitVec.extractLsb'_toNat, BitVec.toNat_shiftLeft, BitVec.toNat_ofNat, Nat.shiftLeft_eq, Nat.shiftRight_eq_div_pow]
    omega
  have hz : (2 : ℝ) ^ ((e : ℤ) - 127) = 2 ^ 23 * (2 : ℝ) ^ ((e : ℤ) - (2 ^ (8 - 1) - 1) - 23) := by
    rw [show ((e : ℤ) - 127) = 23 + ((e : ℤ) - (2 ^ (8 - 1) - 1) - 23) by norm_num, zpow_add₀ (by norm_num)]
    norm_num
  have hb : ((0#1 : BitVec 1) == 1#1) = false := by decide
  show Ideal.ieee 8 23 _ = _
  unfold Ideal.ieee
  simp only [hex, hfr, hneg, hb]
  rw [if_neg (by omega), if_neg (by omega), hz]
  norm_num

/-- The ladder's rungs. -/
def rung (j : Fin 252) : EReal := Ideal.ofBits .f32 (BitVec.ofNat 32 (j.val + 1) <<< 23)

theorem rung_eq (j : Fin 252) : rung j = (((2 : ℝ) ^ ((j.val : ℤ) - 126) : ℝ) : EReal) := by
  unfold rung
  rw [pow_bits _ (by omega) (by omega)]
  congr 2; push_cast; ring

/-- How many rungs `y` reaches. -/
def reach (y : EReal) : ℕ := ((Finset.univ : Finset (Fin 252)).filter fun j => rung j ≤ y).card

theorem reach_le (y : EReal) : reach y ≤ 252 := (Finset.card_filter_le _ _).trans (by simp)

theorem reach_top : reach ⊤ = 252 := by simp [reach]

theorem reach_bot : reach ⊥ = 0 := by
  unfold reach
  rw [Finset.card_eq_zero, Finset.filter_eq_empty_iff]
  intro j _ h
  rw [rung_eq] at h
  exact absurd (le_bot_iff.mp h) (EReal.coe_ne_bot _)

theorem reach_small (r : ℝ) (h : r < (2 : ℝ) ^ (-126 : ℤ)) : reach (r : EReal) = 0 := by
  unfold reach
  rw [Finset.card_eq_zero, Finset.filter_eq_empty_iff]
  intro j _ hj
  rw [rung_eq, EReal.coe_le_coe_iff] at hj
  have : (2 : ℝ) ^ (-126 : ℤ) ≤ (2 : ℝ) ^ ((j.val : ℤ) - 126) := zpow_le_zpow_right₀ (by norm_num) (by omega)
  linarith

theorem log2_pos : (0 : ℝ) < Real.log 2 := Real.log_pos (by norm_num)

/-- The floor of the logarithm to base two. -/
def flog (r : ℝ) : ℤ := ⌊Real.log r * (Real.log 2)⁻¹⌋

theorem pow_le_iff (r : ℝ) (hr : 0 < r) (z : ℤ) : (2 : ℝ) ^ z ≤ r ↔ z ≤ flog r := by
  unfold flog
  rw [Int.le_floor, ← div_eq_mul_inv, le_div_iff₀ log2_pos, ← Real.log_zpow, Real.log_le_log_iff (by positivity) hr]

theorem reach_real (r : ℝ) (h : (2 : ℝ) ^ (-126 : ℤ) ≤ r) :
    -126 ≤ flog r ∧ (reach (r : EReal) : ℤ) = min 252 (flog r + 127) := by
  have hr : 0 < r := lt_of_lt_of_le (by positivity) h
  have hk : -126 ≤ flog r := (pow_le_iff r hr _).mp h
  refine ⟨hk, ?_⟩
  obtain ⟨n, hn⟩ : ∃ n : ℕ, flog r + 127 = n := ⟨(flog r + 127).toNat, by omega⟩
  have e : ((Finset.univ : Finset (Fin 252)).filter fun j => rung j ≤ (r : EReal))
      = (Finset.univ : Finset (Fin 252)).filter fun j => j.val < n := by
    apply Finset.filter_congr
    intro j _
    rw [rung_eq, EReal.coe_le_coe_iff]
    rw [pow_le_iff r hr]; omega
  unfold reach
  rw [e, Fin.card_filter_val_lt, hn]
  push_cast; rfl

/-! ## The two exponents are one -/

/-- The exponent the ladder gives. -/
def stepExpo (n : ℕ) : ℤ := if n = 0 then 0 else (n : ℤ) - 126

theorem ofBits_least : Ideal.ofBits .f32 0x00800000#32 = (((2 : ℝ) ^ (-126 : ℤ) : ℝ) : EReal) := by
  have := pow_bits 1 le_rfl (by norm_num)
  norm_num at this ⊢
  exact this

theorem ofBits_two : Ideal.ofBits .f32 0x40000000#32 = ((2 : ℝ) : EReal) := by
  have := pow_bits 128 (by norm_num) (by norm_num)
  norm_num at this ⊢
  exact this

theorem ofBits_one : Ideal.ofBits .f32 0x3F800000#32 = ((1 : ℝ) : EReal) := by
  have := pow_bits 127 (by norm_num) (by norm_num)
  norm_num at this ⊢
  exact this

theorem ofBits_126 : Ideal.ofBits .f32 0x42FC0000#32 = ((126 : ℝ) : EReal) := by
  simp [Ideal.ofBits, Ideal.ieee, -EReal.coe_mul]; norm_num

theorem log_two : Ideal.log ((2 : ℝ) : EReal) = ((Real.log 2 : ℝ) : EReal) := by
  show (if (2 : ℝ) ≤ 0 then (⊥ : EReal) else _) = _
  rw [if_neg (by norm_num)]

theorem expo_eq (y : EReal) : expo y = ((stepExpo (reach y) : ℝ) : EReal) := by
  unfold expo
  rw [ofBits_least, ofBits_two, ofBits_one, ofBits_126, Ideal.ofBits_zero_f32, log_two]
  induction y using EReal.rec with
  | bot => rw [if_pos (EReal.bot_lt_coe _), reach_bot]; simp [stepExpo]
  | top =>
    rw [if_neg (not_lt.mpr le_top), reach_top]
    have e : Ideal.div (Ideal.log ⊤) ((Real.log 2 : ℝ) : EReal) = ⊤ := by
      show Ideal.div ⊤ _ = ⊤
      unfold Ideal.div
      rw [if_neg (by exact_mod_cast log2_pos.ne'), ← EReal.coe_inv, EReal.top_mul_coe_of_pos (inv_pos.mpr log2_pos)]
    rw [e, Ideal.liftRound_top, EReal.top_add_coe, min_eq_right le_top]
    norm_num [stepExpo]
  | coe r =>
    by_cases h : r < (2 : ℝ) ^ (-126 : ℤ)
    · rw [if_pos (by exact_mod_cast h), reach_small r h]; simp [stepExpo]
    · rw [if_neg (by exact_mod_cast h)]
      rw [not_lt] at h
      have hr : 0 < r := lt_of_lt_of_le (by positivity) h
      obtain ⟨hk, hn⟩ := reach_real r h
      have e : Ideal.div (Ideal.log (r : EReal)) ((Real.log 2 : ℝ) : EReal) = ((Real.log r * (Real.log 2)⁻¹ : ℝ) : EReal) := by
        show Ideal.div (if r ≤ 0 then ⊥ else ((Real.log r : ℝ) : EReal)) _ = _
        rw [if_neg (not_le.mpr hr)]
        unfold Ideal.div
        rw [if_neg (by exact_mod_cast log2_pos.ne'), ← EReal.coe_inv, ← EReal.coe_mul]
      rw [e, Ideal.liftRound_coe, show ⌊Real.log r * (Real.log 2)⁻¹⌋ = flog r from rfl, ← EReal.coe_add, ← EReal.coe_strictMono.monotone.map_min]
      have hs : stepExpo (reach (r : EReal)) = min (flog r + 1) 126 := by
        unfold stepExpo; split <;> omega
      rw [hs]; push_cast; rfl

theorem exp2_int (z : ℤ) : Ideal.exp2 ((z : ℝ) : EReal) = (((2 : ℝ) ^ z : ℝ) : EReal) := by
  rw [Ideal.exp2_coe]
  congr 1
  exact Real.rpow_intCast 2 z

/-- The exponent as the kernel has it, a word. -/
def wordExpo (N : BitVec 32) : BitVec 32 := if N = 0#32 then 0#32 else N - 126#32

theorem word_scale : ∀ n : Fin 253, wordExpo (BitVec.ofNat 32 n.val) + 127#32
    = BitVec.ofNat 32 (if n.val = 0 then 127 else n.val + 1) := by decide +kernel

theorem word_inv : ∀ n : Fin 253, 127#32 - wordExpo (BitVec.ofNat 32 n.val)
    = BitVec.ofNat 32 (if n.val = 0 then 127 else 253 - n.val) := by decide +kernel

/-- The kernel's scale is the problem's. -/
theorem scale_word (N : BitVec 32) (y : EReal) (h : N.toNat = reach y) :
    Ideal.ofBits .f32 ((wordExpo N + 127#32) <<< 23) = Ideal.exp2 (expo y) := by
  have hle := reach_le y
  have hN : N = BitVec.ofNat 32 (reach y) := by rw [← h]; simp
  rw [hN, word_scale ⟨reach y, by omega⟩, expo_eq, exp2_int]
  dsimp only
  rw [pow_bits _ (by split <;> omega) (by split <;> omega)]
  unfold stepExpo
  split
  · norm_num
  · congr 2; push_cast; ring

/-- And its inverse. -/
theorem inv_word (N : BitVec 32) (y : EReal) (h : N.toNat = reach y) :
    Ideal.ofBits .f32 ((127#32 - wordExpo N) <<< 23) = Ideal.exp2 (Ideal.ofBits .f32 0x00000000#32 - expo y) := by
  have hle := reach_le y
  have hN : N = BitVec.ofNat 32 (reach y) := by rw [← h]; simp
  have e : (Ideal.ofBits .f32 0x00000000#32 - expo y) = (((-(stepExpo (reach y)) : ℤ) : ℝ) : EReal) := by
    rw [expo_eq, Ideal.ofBits_zero_f32, zero_sub]; push_cast; rfl
  rw [hN, word_inv ⟨reach y, by omega⟩, e, exp2_int]
  dsimp only
  rw [pow_bits _ (by split <;> omega) (by split <;> omega)]
  unfold stepExpo
  split
  · norm_num
  · congr 2
    rw [Nat.cast_sub (by omega)]; push_cast; ring

end Cert.Quant

end
-- ==== Proof.Columns.lean ====
/- The kernel's quantiser on a block, read in extended reals: each column is quantised as the problem says. -/
module

public import proofs.«01_k».proof.Proof.Blocks
public import proofs.«01_k».proof.Proof.Scale
public import Idealize.ShloMosaic.Lib.Pointwise
public import Idealize.ShloMosaic.Lib.Pointwise.IndexVar
public import Idealize.ShloMosaic.Lib.WordSum

@[expose] public section

noncomputable section

namespace Cert.KernelIdeal.Hand

open Idealize.ShloMosaic Cert.KernelIdeal Cert.KernelIdeal.Gen

/-- Column `l` of a block. -/
abbrev colOf {n : ℕ} (v : FVec Ideal (Blk n) .bf16) (l : Fin n) : Fin 128 → EReal := fun r => v (ix2 r l)

theorem one_lane {n : ℕ} (l : Fin n) (h0 : n = 1 → 0 < n) : (if h : n = 1 then (⟨0, h0 h⟩ : Fin n) else l) = l := by
  split
  · next h => subst h; exact Subsingleton.elim _ _
  · rfl

/-- A row laid out as a matrix of one row. -/
theorem row_apply {n : ℕ} {α : Type} (h : (Vec1 n).ShapeCasts (Row n)) (x : (Vec1 n).Idx → α) (l : Fin n) :
    shapeCast (Row n) x h (ix2 0 l) = x (ix1 l) := by
  refine congrArg x (Shape.reshapeEquiv_eq_of_rowMajor h ?_)
  rw [Shape.rowMajor_val_two, Shape.rowMajor_val_one]
  show l.val = 0 * _ + l.val
  omega

/-- A row repeated over `k` rows. -/
theorem spread_apply {k n : ℕ} {α : Type} (h : (Row n).Broadcasts (⟨2, ![k, n]⟩ : Shape)) (x : (Row n).Idx → α) (r : Fin k) (l : Fin n) :
    broadcastTo (⟨2, ![k, n]⟩ : Shape) x h (ix2 r l) = x (ix2 0 l) := by
  unfold broadcastTo
  refine congrArg x (funext fun a => ?_)
  match a with
  | ⟨0, _⟩ => rfl
  | ⟨1, _⟩ => exact one_lane l _

theorem ofBits_bot_bf16 : Ideal.ofBits .bf16 0xFF80#16 = ⊥ := by simp [Ideal.ofBits, Ideal.ieee]
theorem ofBits_bot_f32 : Ideal.ofBits .f32 0xFF800000#32 = ⊥ := by simp [Ideal.ofBits, Ideal.ieee]

theorem ratio_apply {n : ℕ} (L : Lanes n) (v : FVec Ideal (Blk n) .bf16) (l : Fin n) :
    Hand.ratio L v (ix2 0 l) = Quant.ratio (colOf v l) := by
  have e : multiReduction .maximumf [0] (Vec1 n) (absf v) 0xFF80#16 L.red (.inr rfl) rfl (ix1 l) = Quant.amax (colOf v l) := by
    refine (Ideal.multiReduction_maximumf_single _ _ L.red _ _ _).trans ?_
    unfold Quant.amax
    refine (congrArg (fun b : EReal => Finset.fold max b (absf v ∘ L.red.lift (ix1 l)) Finset.univ) ofBits_bot_bf16).trans ?_
    refine congrArg (fun f => Finset.fold max ⊥ f Finset.univ) (funext fun r => ?_)
    have hl : L.red.lift (ix1 l) r = ix2 r l := by
      funext a
      apply Fin.ext
      rw [L.red.lift_val]
      match a with
      | ⟨0, _⟩ => rfl
      | ⟨1, _⟩ => rfl
    show max (v (L.red.lift (ix1 l) r)) (-(v (L.red.lift (ix1 l) r))) = _
    rw [hl]; rfl
  have e' : Hand.ratio L v (ix2 0 l) = (shapeCast (Row n)
      (multiReduction .maximumf [0] (Vec1 n) (absf v) 0xFF80#16 L.red (.inr rfl) rfl) L.row (ix2 0 l) : EReal)
        * Ideal.ofBits .f32 0x3B124925#32 := rfl
  rw [e', row_apply, e]
  rfl

theorem bit_apply (y z : EReal) : (BitVec.setWidth 32 (Ideal.cmp .oge y z)).toNat = if z ≤ y then 1 else 0 := by
  show (BitVec.setWidth 32 (BitVec.ofBool (decide (z ≤ y)))).toNat = _
  by_cases h : z ≤ y
  · rw [decide_eq_true h, if_pos h]; rfl
  · rw [decide_eq_false h, if_neg h]; rfl

theorem field_apply {n : ℕ} (L : Lanes n) (v : FVec Ideal (Blk n) .bf16) (l : Fin n) :
    (field L v (ix2 0 l)).toNat = Quant.reach (Quant.ratio (colOf v l)) := by
  unfold field
  rw [row_apply]
  generalize hsrc : (extui 32 (cmpf .oge (broadcastTo (Lad n) (Hand.ratio L v) L.lad)
      (bitcastToFloat .f32 (shli (addi (iota .tc (Lad n) 32 [0] L.iota) (broadcast (Lad n) 1#32)) (broadcast (Lad n) 23#32))))
      natLt_1_32 : IVec (Lad n) 32) = src
  have hs : ∀ j : Fin 252, (src (ix2 j l)).toNat = if Quant.rung j ≤ Quant.ratio (colOf v l) then 1 else 0 := by
    intro j
    have e : (iota .tc (Lad n) 32 [0] L.iota (ix2 j l) + 1#32) = BitVec.ofNat 32 (j.val + 1) := by
      rw [iota_single_apply, BitVec.ofNat_add]; rfl
    rw [← hsrc]
    have e' : (extui 32 (cmpf .oge (broadcastTo (Lad n) (Hand.ratio L v) L.lad)
      (bitcastToFloat .f32 (shli (addi (iota .tc (Lad n) 32 [0] L.iota) (broadcast (Lad n) 1#32)) (broadcast (Lad n) 23#32))))
      natLt_1_32 : IVec (Lad n) 32) (ix2 j l) = BitVec.setWidth 32 (Ideal.cmp .oge (broadcastTo (Lad n) (Hand.ratio L v) L.lad (ix2 j l))
      (Ideal.ofBits .f32 ((iota .tc (Lad n) 32 [0] L.iota (ix2 j l) + 1#32) <<< (23 : ℕ)))) := rfl
    rw [e', spread_apply, ratio_apply, e]
    exact bit_apply _ _
  have hl : ∀ r : Fin ((Lad n).size 0), L.redLad.lift (ix1 l) r = ix2 r l := by
    intro r
    funext a
    apply Fin.ext
    refine (L.redLad.lift_val (ix1 l) r a).trans ?_
    match a with
    | ⟨0, _⟩ => rfl
    | ⟨1, _⟩ => rfl
  have hsum : ∑ i ∈ Finset.univ.filter (fun i => L.redLad.drop i = ix1 l), (src i).toNat = Quant.reach (Quant.ratio (colOf v l)) := by
    refine (L.redLad.sum_filter_drop_single (fun i => (src i).toNat) (ix1 l)).trans ?_
    unfold Quant.reach
    rw [Finset.card_filter]
    exact Finset.sum_congr rfl fun r _ => (congrArg (fun i => (src i).toNat) (hl r)).trans (hs r)
  exact (WordSum.toNat_multiReductionI_add src L.redLad rfl (ix1 l)
    (by rw [hsum]; exact lt_of_le_of_lt (Quant.reach_le _) (by norm_num))).trans hsum

theorem expo_apply {n : ℕ} (L : Lanes n) (v : FVec Ideal (Blk n) .bf16) (l : Fin n) :
    Hand.expo L v (ix2 0 l) = Quant.wordExpo (field L v (ix2 0 l)) := by
  show (if IntOp.cmpi .eq (field L v (ix2 0 l)) 0#32 = 1#1 then 0#32 else field L v (ix2 0 l) - 126#32) = _
  generalize field L v (ix2 0 l) = N
  unfold Quant.wordExpo
  by_cases h : N = 0#32
  · subst h; rfl
  · have hb : (N == 0#32) = false := beq_eq_false_iff_ne.mpr h
    rw [if_neg h, if_neg]
    show ¬ (BitVec.ofBool (N == 0#32)) = 1#1
    rw [hb]; decide

/-- The block's scales are the problem's. -/
theorem scale_apply {n : ℕ} (L : Lanes n) (v : FVec Ideal (Blk n) .bf16) (l : Fin n) :
    Hand.scale L v (ix2 0 l) = Quant.scale (colOf v l) := by
  refine Eq.trans ?_ (Quant.scale_word _ _ (field_apply L v l))
  rw [← expo_apply]
  rfl

theorem inv_apply {n : ℕ} (L : Lanes n) (v : FVec Ideal (Blk n) .bf16) (l : Fin n) :
    Hand.inv L v (ix2 0 l) = Quant.inv (colOf v l) := by
  refine Eq.trans ?_ (Quant.inv_word _ _ (field_apply L v l))
  rw [← expo_apply]
  rfl

/-- The block's codes are the problem's. -/
theorem codes_apply {n : ℕ} (L : Lanes n) (v : FVec Ideal (Blk n) .bf16) (r : Fin 128) (l : Fin n) :
    codes L v (ix2 r l) = Quant.code (colOf v l) r := by
  have e : codes L v (ix2 r l) = min (Ideal.ofBits .f32 0x43E00000#32) (max (Ideal.ofBits .f32 0xC3E00000#32)
      (v (ix2 r l) * broadcastTo (Blk n) (truncf .bf16 (Hand.inv L v) bitsLt_bf16_f32) L.blk (ix2 r l))) := rfl
  rw [e, spread_apply]
  exact congrArg (fun x => min (Ideal.ofBits .f32 0x43E00000#32) (max (Ideal.ofBits .f32 0xC3E00000#32) (v (ix2 r l) * x))) (inv_apply L v l)

/-- And what the product reads. -/
theorem wide_apply {n : ℕ} (L : Lanes n) (v : FVec Ideal (Blk n) .bf16) (r : Fin 128) (l : Fin n) :
    Hand.wide L v (ix2 r l) = Quant.wide (colOf v l) r := by
  have e : Hand.wide L v (ix2 r l) = codes L v (ix2 r l)
      * broadcastTo (Blk n) (truncf .bf16 (Hand.scale L v) bitsLt_bf16_f32) L.blk (ix2 r l) := rfl
  rw [e, spread_apply, codes_apply]
  exact congrArg (fun x => Quant.code (colOf v l) r * x) (scale_apply L v l)

end Cert.KernelIdeal.Hand

end
-- ==== Proof.Spec.lean ====
/- The five results as plain functions of the three arguments, in extended reals. -/
module

public import proofs.«01_k».proof.Proof.Scale
public import Idealize.ShloMosaic.Lib.Pointwise.IndexVar

@[expose] public section

noncomputable section

namespace Cert.Spec

open Idealize.ShloMosaic

/-- The argument `x`: 8 by 2048 tokens, 5120 features. -/
abbrev ArgX := (⟨3, ![8, 2048, 5120]⟩ : Shape).Idx → EReal
/-- Its scales: one for 128 features. -/
abbrev ArgS := (⟨3, ![8, 2048, 40]⟩ : Shape).Idx → EReal
/-- The argument `dy`. -/
abbrev ArgD := (⟨3, ![8, 2048, 1792]⟩ : Shape).Idx → EReal

/-- Token `n`'s batch and position. -/
abbrev bat (n : Fin 16384) : Fin 8 := ⟨n.val / 2048, by omega⟩
abbrev pos (n : Fin 16384) : Fin 2048 := ⟨n.val % 2048, by omega⟩
/-- The group of 128 tokens that `n` is in, and its place there. -/
abbrev grp (n : Fin 16384) : Fin 128 := ⟨n.val / 128, by omega⟩
abbrev inGrp (n : Fin 16384) : Fin 128 := ⟨n.val % 128, by omega⟩
/-- The `r`-th token of group `G`. -/
abbrev tok (G r : Fin 128) : Fin 16384 := ⟨128 * G.val + r.val, by omega⟩

/-- `x` with its scales applied. -/
def xv (a0 : ArgX) (a1 : ArgS) (n : Fin 16384) (k : Fin 5120) : EReal :=
  a0 (ix3 (bat n) (pos n) k) * a1 (ix3 (bat n) (pos n) ⟨k.val / 128, by omega⟩)

/-- `dy`. -/
def dv (a2 : ArgD) (n : Fin 16384) (j : Fin 1792) : EReal := a2 (ix3 (bat n) (pos n) j)

/-- One group of a column of `x`, and of `dy`. -/
def xcol (a0 : ArgX) (a1 : ArgS) (G : Fin 128) (k : Fin 5120) : Fin 128 → EReal := fun r => xv a0 a1 (tok G r) k
def dcol (a2 : ArgD) (G : Fin 128) (j : Fin 1792) : Fin 128 → EReal := fun r => dv a2 (tok G r) j

/-- The codes of `x` and of `dy`. -/
def xq (a0 : ArgX) (a1 : ArgS) (n : Fin 16384) (k : Fin 5120) : EReal := Quant.code (xcol a0 a1 (grp n) k) (inGrp n)
def dq (a2 : ArgD) (n : Fin 16384) (j : Fin 1792) : EReal := Quant.code (dcol a2 (grp n) j) (inGrp n)

/-- Their scales. -/
def xs (a0 : ArgX) (a1 : ArgS) (G : Fin 128) (k : Fin 5120) : EReal := Quant.scale (xcol a0 a1 G k)
def ds (a2 : ArgD) (G : Fin 128) (j : Fin 1792) : EReal := Quant.scale (dcol a2 G j)

/-- One token's term of the weight gradient. -/
def term (a0 : ArgX) (a1 : ArgS) (a2 : ArgD) (k : Fin 5120) (j : Fin 1792) (n : Fin 16384) : EReal :=
  Quant.wide (xcol a0 a1 (grp n) k) (inGrp n) * Quant.wide (dcol a2 (grp n) j) (inGrp n)

/-- The weight gradient. -/
def dw (a0 : ArgX) (a1 : ArgS) (a2 : ArgD) (k : Fin 5120) (j : Fin 1792) : EReal := ∑ n : Fin 16384, term a0 a1 a2 k j n

end Cert.Spec

end
-- ==== Proof.Reads.lean ====
/- What a grid point reads of the arguments: at point `t` the tokens from 512 t on. -/
module

public import proofs.«01_k».proof.Proof.Run
public import proofs.«01_k».proof.Proof.Columns
public import proofs.«01_k».proof.Proof.Spec
public import Idealize.ShloMosaic.Lib.Claim

@[expose] public section

set_option maxRecDepth 16384

noncomputable section

namespace Cert.KernelIdeal.Hand

open Idealize.ShloMosaic Idealize.ShloMosaic.TcCoe Idealize.ShloMosaic.Tactic Cert.KernelIdeal Cert.KernelIdeal.Gen

variable (m : (ℓ : Loc nD τ sig) → Buf (Elt Ideal) ℓ)

/-- The arguments. -/
abbrev arg0 (c : Dev nD) : Spec.ArgX := m ((c : Thread nD τ).loc main_arg0)
abbrev arg1 (c : Dev nD) : Spec.ArgS := m ((c : Thread nD τ).loc main_arg1)
abbrev arg2 (c : Dev nD) : Spec.ArgD := m ((c : Thread nD τ).loc main_arg2)

theorem idx_0 : ∀ t : Fin cfg0.N, win0_0.index t 0 = t.val ∧ win0_0.index t 1 = 0 := (by decide +kernel : ∀ t : Fin grid0.N, _)
theorem idx_1 : ∀ t : Fin cfg0.N, win0_1.index t 0 = t.val ∧ win0_1.index t 1 = 0 := (by decide +kernel : ∀ t : Fin grid0.N, _)
theorem idx_2 : ∀ t : Fin cfg0.N, win0_2.index t 0 = t.val ∧ win0_2.index t 1 = 0 := (by decide +kernel : ∀ t : Fin grid0.N, _)
theorem idx_3 : ∀ t : Fin cfg0.N, win0_3.index t 0 = 0 ∧ win0_3.index t 1 = 0 := (by decide +kernel : ∀ t : Fin grid0.N, _)
theorem idx_4 : ∀ t : Fin cfg0.N, win0_4.index t 0 = t.val ∧ win0_4.index t 1 = 0 := (by decide +kernel : ∀ t : Fin grid0.N, _)
theorem idx_5 : ∀ t : Fin cfg0.N, win0_5.index t 0 = t.val / 2 ∧ win0_5.index t 1 = 0 := (by decide +kernel : ∀ t : Fin grid0.N, _)
theorem idx_6 : ∀ t : Fin cfg0.N, win0_6.index t 0 = t.val ∧ win0_6.index t 1 = 0 := (by decide +kernel : ∀ t : Fin grid0.N, _)
theorem idx_7 : ∀ t : Fin cfg0.N, win0_7.index t 0 = t.val / 2 ∧ win0_7.index t 1 = 0 := (by decide +kernel : ∀ t : Fin grid0.N, _)

theorem points (t : Fin cfg0.N) : t.val < 32 := lt_of_lt_of_eq t.isLt (N_0 : grid0.N = 32)

/-- The `r`-th token of point `t`. -/
abbrev tokAt (t : Fin cfg0.N) (r : Fin 512) : Fin 16384 := ⟨512 * t.val + r.val, by have := points t; omega⟩

theorem bX_apply (c : Dev nD) (t : Fin cfg0.N) (r : Fin 512) (k : Fin 5120) :
    bX m c t (ix2 r k) = arg0 m c (ix3 (Spec.bat (tokAt t r)) (Spec.pos (tokAt t r)) k) := by
  obtain ⟨e0, e1⟩ := idx_0 t
  have hemb : ((cfg0.win 0).blk t).view.emb (ix2 r k) = ix2 (tokAt t r) k := by
    funext a
    apply Fin.ext
    match a with
    | ⟨0, _⟩ => show win0_0.index t 0 * 512 + 1 * r.val = 512 * t.val + r.val; omega
    | ⟨1, _⟩ => show win0_0.index t 1 * 5120 + 1 * k.val = k.val; omega
  unfold bX iblk
  show V m c main_v0 (((cfg0.win 0).blk t).view.emb (ix2 r k)) = _
  rw [hemb]
  entry_read
  pointwise

theorem bFS_apply (c : Dev nD) (t : Fin cfg0.N) (r : Fin 512) (k : Fin 40) :
    bFS m c t (ix2 r k) = arg1 m c (ix3 (Spec.bat (tokAt t r)) (Spec.pos (tokAt t r)) k) := by
  obtain ⟨e0, e1⟩ := idx_1 t
  have hemb : ((cfg0.win 1).blk t).view.emb (ix2 r k) = ix2 (tokAt t r) k := by
    funext a
    apply Fin.ext
    match a with
    | ⟨0, _⟩ => show win0_1.index t 0 * 512 + 1 * r.val = 512 * t.val + r.val; omega
    | ⟨1, _⟩ => show win0_1.index t 1 * 40 + 1 * k.val = k.val; omega
  unfold bFS iblk
  show V m c main_v1 (((cfg0.win 1).blk t).view.emb (ix2 r k)) = _
  rw [hemb]
  entry_read
  pointwise

theorem bDY_apply (c : Dev nD) (t : Fin cfg0.N) (r : Fin 512) (k : Fin 1792) :
    bDY m c t (ix2 r k) = arg2 m c (ix3 (Spec.bat (tokAt t r)) (Spec.pos (tokAt t r)) k) := by
  obtain ⟨e0, e1⟩ := idx_2 t
  have hemb : ((cfg0.win 2).blk t).view.emb (ix2 r k) = ix2 (tokAt t r) k := by
    funext a
    apply Fin.ext
    match a with
    | ⟨0, _⟩ => show win0_2.index t 0 * 512 + 1 * r.val = 512 * t.val + r.val; omega
    | ⟨1, _⟩ => show win0_2.index t 1 * 1792 + 1 * k.val = k.val; omega
  unfold bDY iblk
  show V m c main_v2 (((cfg0.win 2).blk t).view.emb (ix2 r k)) = _
  rw [hemb]
  entry_read
  pointwise

/-- The group of 128 tokens that point `t` reads `g`-th. -/
abbrev grpAt (t : Fin cfg0.N) (g : Fin 4) : Fin 128 := ⟨4 * t.val + g.val, by have := points t; omega⟩

/-- A block of `x`, column by column. -/
theorem x_col (c : Dev nD) (t : Fin cfg0.N) (g : Fin 4) (j : Fin 40) (l : Fin 128) :
    colOf (xAt (bX m c t) (bFS m c t) g j) l = Spec.xcol (arg0 m c) (arg1 m c) (grpAt t g) ⟨128 * j.val + l.val, by omega⟩ := by
  funext r
  have hx : bX m c t ((rX g j).emb (ix2 r l)) = _ := (congrArg (bX m c t) (show (rX g j).emb (ix2 r l)
    = ix2 (⟨128 * g.val + r.val, by omega⟩ : Fin 512) (⟨128 * j.val + l.val, by omega⟩ : Fin 5120) from by
      funext a; apply Fin.ext; rw [Rect.emb_apply]
      match a with
      | ⟨0, _⟩ => show 128 * g.val + 1 * r.val = 128 * g.val + r.val; omega
      | ⟨1, _⟩ => show 128 * j.val + 1 * l.val = 128 * j.val + l.val; omega)).trans (bX_apply m c t _ _)
  have hf : bFS m c t ((rFs g).emb (ix2 r j)) = _ := (congrArg (bFS m c t) (show (rFs g).emb (ix2 r j)
    = ix2 (⟨128 * g.val + r.val, by omega⟩ : Fin 512) j from by
      funext a; apply Fin.ext; rw [Rect.emb_apply]
      match a with
      | ⟨0, _⟩ => show 128 * g.val + 1 * r.val = 128 * g.val + r.val; omega
      | ⟨1, _⟩ => show 0 + 1 * j.val = j.val; omega)).trans (bFS_apply m c t _ _)
  have e : xAt (bX m c t) (bFS m c t) g j (ix2 r l) = (bX m c t ((rX g j).emb (ix2 r l)) * bFS m c t ((rFs g).emb (ix2 r j)) : EReal) := by
    generalize bX m c t = X
    generalize bFS m c t = FS
    unfold xAt xIn
    pointwise
  show xAt (bX m c t) (bFS m c t) g j (ix2 r l) = Spec.xv _ _ _ _
  rw [e, hx, hf]
  have hn : tokAt t ⟨128 * g.val + r.val, by omega⟩ = Spec.tok (grpAt t g) r := by
    apply Fin.ext; show 512 * t.val + (128 * g.val + r.val) = 128 * (4 * t.val + g.val) + r.val; omega
  have hj : j = ⟨(128 * j.val + l.val) / 128, by omega⟩ := by
    apply Fin.ext; show j.val = (128 * j.val + l.val) / 128; omega
  rw [hn]
  unfold Spec.xv
  exact congrArg (fun q => (_ * arg1 m c (ix3 _ _ q) : EReal)) hj

theorem d_col (c : Dev nD) (t : Fin cfg0.N) (g : Fin 4) (b : Fin 7) (l : Fin 256) :
    colOf (dyIn (bDY m c t) g b) l = Spec.dcol (arg2 m c) (grpAt t g) ⟨256 * b.val + l.val, by omega⟩ := by
  funext r
  have hd : bDY m c t ((rDy g b).emb (ix2 r l)) = _ := (congrArg (bDY m c t) (show (rDy g b).emb (ix2 r l)
    = ix2 (⟨128 * g.val + r.val, by omega⟩ : Fin 512) (⟨256 * b.val + l.val, by omega⟩ : Fin 1792) from by
      funext a; apply Fin.ext; rw [Rect.emb_apply]
      match a with
      | ⟨0, _⟩ => show 128 * g.val + 1 * r.val = 128 * g.val + r.val; omega
      | ⟨1, _⟩ => show 256 * b.val + 1 * l.val = 256 * b.val + l.val; omega)).trans (bDY_apply m c t _ _)
  have e : dyIn (bDY m c t) g b (ix2 r l) = bDY m c t ((rDy g b).emb (ix2 r l)) := by
    unfold dyIn
    pointwise
  show dyIn (bDY m c t) g b (ix2 r l) = Spec.dv _ _ _
  rw [e, hd]
  have hn : tokAt t ⟨128 * g.val + r.val, by omega⟩ = Spec.tok (grpAt t g) r := by
    apply Fin.ext; show 512 * t.val + (128 * g.val + r.val) = 128 * (4 * t.val + g.val) + r.val; omega
  rw [hn]
  rfl

end Cert.KernelIdeal.Hand

end
-- ==== Proof.Leaves.lean ====
/- What each grid point leaves, in terms of the arguments. -/
module

public import proofs.«01_k».proof.Proof.Reads

@[expose] public section

set_option maxRecDepth 16384

noncomputable section

namespace Cert.KernelIdeal.Hand

open Idealize.ShloMosaic Idealize.ShloMosaic.TcCoe Idealize.ShloMosaic.Tactic Cert.KernelIdeal Cert.KernelIdeal.Gen

variable (m : (ℓ : Loc nD τ sig) → Buf (Elt Ideal) ℓ) (c : Dev nD) (t : Fin cfg0.N)

/-! ## The cells of the blocks -/

theorem emb_rX (g : Fin 4) (j : Fin 40) (r l : Fin 128) :
    (rX g j).emb (ix2 r l) = ix2 (⟨128 * g.val + r.val, by omega⟩ : Fin 512) (⟨128 * j.val + l.val, by omega⟩ : Fin 5120) := by
  funext a; apply Fin.ext; rw [Rect.emb_apply]
  match a with
  | ⟨0, _⟩ => show 128 * g.val + 1 * r.val = 128 * g.val + r.val; omega
  | ⟨1, _⟩ => show 128 * j.val + 1 * l.val = 128 * j.val + l.val; omega

theorem emb_rDy (g : Fin 4) (b : Fin 7) (r : Fin 128) (l : Fin 256) :
    (rDy g b).emb (ix2 r l) = ix2 (⟨128 * g.val + r.val, by omega⟩ : Fin 512) (⟨256 * b.val + l.val, by omega⟩ : Fin 1792) := by
  funext a; apply Fin.ext; rw [Rect.emb_apply]
  match a with
  | ⟨0, _⟩ => show 128 * g.val + 1 * r.val = 128 * g.val + r.val; omega
  | ⟨1, _⟩ => show 256 * b.val + 1 * l.val = 256 * b.val + l.val; omega

theorem emb_rXs (j : Fin 40) (r : Fin 8) (l : Fin 128) :
    (rXs j).emb (ix2 r l) = ix2 r (⟨128 * j.val + l.val, by omega⟩ : Fin 5120) := by
  funext a; apply Fin.ext; rw [Rect.emb_apply]
  match a with
  | ⟨0, _⟩ => show 0 + 1 * r.val = r.val; omega
  | ⟨1, _⟩ => show 128 * j.val + 1 * l.val = 128 * j.val + l.val; omega

theorem emb_rDs (b : Fin 7) (r : Fin 8) (l : Fin 256) :
    (rDs b).emb (ix2 r l) = ix2 r (⟨256 * b.val + l.val, by omega⟩ : Fin 1792) := by
  funext a; apply Fin.ext; rw [Rect.emb_apply]
  match a with
  | ⟨0, _⟩ => show 0 + 1 * r.val = r.val; omega
  | ⟨1, _⟩ => show 256 * b.val + 1 * l.val = 256 * b.val + l.val; omega

theorem emb_rDw (p : Fin 5) (k : Fin 1024) (j : Fin 1792) :
    (rDw p).emb (ix2 k j) = ix2 (⟨1024 * p.val + k.val, by omega⟩ : Fin 5120) j := by
  funext a; apply Fin.ext; rw [Rect.emb_apply]
  match a with
  | ⟨0, _⟩ => show 1024 * p.val + 1 * k.val = 1024 * p.val + k.val; omega
  | ⟨1, _⟩ => show 0 + 1 * j.val = j.val; omega

/-! ## The codes -/

theorem xq_left (C : Vec Ideal S512x5120 .fp8e4m3) (h : LeavesXq (bX m c t) (bFS m c t) C) (r : Fin 512) (k : Fin 5120) :
    C (ix2 r k) = Spec.xq (arg0 m c) (arg1 m c) (tokAt t r) k := by
  have e := h ⟨r.val / 128, by omega⟩ ⟨k.val / 128, by omega⟩ (ix2 (⟨r.val % 128, by omega⟩ : Fin 128) (⟨k.val % 128, by omega⟩ : Fin 128))
  rw [emb_rX] at e
  rw [codes_apply lanes128, x_col] at e
  have hr : (⟨128 * (r.val / 128) + r.val % 128, by omega⟩ : Fin 512) = r := Fin.ext (by dsimp only; omega)
  have hk : (⟨128 * (k.val / 128) + k.val % 128, by omega⟩ : Fin 5120) = k := Fin.ext (by dsimp only; omega)
  have hg : grpAt t ⟨r.val / 128, by omega⟩ = Spec.grp (tokAt t r) := Fin.ext (by show 4 * t.val + r.val / 128 = (512 * t.val + r.val) / 128; omega)
  have hi : (⟨r.val % 128, by omega⟩ : Fin 128) = Spec.inGrp (tokAt t r) := Fin.ext (by show r.val % 128 = (512 * t.val + r.val) % 128; omega)
  dsimp only at e
  rw [hr, hk, hg, hi] at e
  exact e

theorem dq_left (C : Vec Ideal S512x1792 .fp8e4m3) (h : LeavesDq (bDY m c t) C) (r : Fin 512) (k : Fin 1792) :
    C (ix2 r k) = Spec.dq (arg2 m c) (tokAt t r) k := by
  have e := h ⟨r.val / 128, by omega⟩ ⟨k.val / 256, by omega⟩ (ix2 (⟨r.val % 128, by omega⟩ : Fin 128) (⟨k.val % 256, by omega⟩ : Fin 256))
  rw [emb_rDy] at e
  rw [codes_apply lanes256, d_col] at e
  have hr : (⟨128 * (r.val / 128) + r.val % 128, by omega⟩ : Fin 512) = r := Fin.ext (by dsimp only; omega)
  have hk : (⟨256 * (k.val / 256) + k.val % 256, by omega⟩ : Fin 1792) = k := Fin.ext (by dsimp only; omega)
  have hg : grpAt t ⟨r.val / 128, by omega⟩ = Spec.grp (tokAt t r) := Fin.ext (by show 4 * t.val + r.val / 128 = (512 * t.val + r.val) / 128; omega)
  have hi : (⟨r.val % 128, by omega⟩ : Fin 128) = Spec.inGrp (tokAt t r) := Fin.ext (by show r.val % 128 = (512 * t.val + r.val) % 128; omega)
  dsimp only at e
  rw [hr, hk, hg, hi] at e
  exact e

/-! ## The scales -/

theorem coords_val : ((grid0.coords t) 0).val = t.val := by
  have h := points t
  have e : ((grid0.coords t) 0).val = t.val / 1 % 32 := Pipeline.Grid.coords_val t 0 (by decide) rfl
  omega

theorem xs_left (D D' : Vec Ideal S8x5120 .f32) (h : LeavesXs (grid0.coords t) (bX m c t) (bFS m c t) D D') (g : Fin 4) (k : Fin 5120) :
    D' (ix2 (⟨4 * (t.val % 2) + g.val, by omega⟩ : Fin 8) k) = Spec.xs (arg0 m c) (arg1 m c) (grpAt t g) k := by
  have e := h.1 g ⟨k.val / 128, by omega⟩ (⟨k.val % 128, by omega⟩ : Fin 128)
  rw [emb_rXs] at e
  rw [scale_apply lanes128, x_col] at e
  have hk : (⟨128 * (k.val / 128) + k.val % 128, by omega⟩ : Fin 5120) = k := Fin.ext (by dsimp only; omega)
  have hr : rowFin (grid0.coords t) g = (⟨4 * (t.val % 2) + g.val, by omega⟩ : Fin 8) :=
    Fin.ext (by show 4 * (((grid0.coords t) 0).val % 2) + g.val = 4 * (t.val % 2) + g.val; rw [coords_val])
  dsimp only at e
  rw [hr, hk] at e
  exact e

theorem xs_kept_left (D D' : Vec Ideal S8x5120 .f32) (h : LeavesXs (grid0.coords t) (bX m c t) (bFS m c t) D D') (r : Fin 8)
    (hr : r.val / 4 ≠ t.val % 2) (k : Fin 5120) : D' (ix2 r k) = D (ix2 r k) := by
  have e := h.2 r (by rw [coords_val]; exact hr) ⟨k.val / 128, by omega⟩ (⟨k.val % 128, by omega⟩ : Fin 128)
  rw [emb_rXs] at e
  have hk : (⟨128 * (k.val / 128) + k.val % 128, by omega⟩ : Fin 5120) = k := Fin.ext (by dsimp only; omega)
  dsimp only at e
  rw [hk] at e
  exact e

theorem ds_left (D D' : Vec Ideal S8x1792 .f32) (h : LeavesDs (grid0.coords t) (bDY m c t) D D') (g : Fin 4) (k : Fin 1792) :
    D' (ix2 (⟨4 * (t.val % 2) + g.val, by omega⟩ : Fin 8) k) = Spec.ds (arg2 m c) (grpAt t g) k := by
  have e := h.1 g ⟨k.val / 256, by omega⟩ (⟨k.val % 256, by omega⟩ : Fin 256)
  rw [emb_rDs] at e
  rw [scale_apply lanes256, d_col] at e
  have hk : (⟨256 * (k.val / 256) + k.val % 256, by omega⟩ : Fin 1792) = k := Fin.ext (by dsimp only; omega)
  have hr : rowFin (grid0.coords t) g = (⟨4 * (t.val % 2) + g.val, by omega⟩ : Fin 8) :=
    Fin.ext (by show 4 * (((grid0.coords t) 0).val % 2) + g.val = 4 * (t.val % 2) + g.val; rw [coords_val])
  dsimp only at e
  rw [hr, hk] at e
  exact e

theorem ds_kept_left (D D' : Vec Ideal S8x1792 .f32) (h : LeavesDs (grid0.coords t) (bDY m c t) D D') (r : Fin 8)
    (hr : r.val / 4 ≠ t.val % 2) (k : Fin 1792) : D' (ix2 r k) = D (ix2 r k) := by
  have e := h.2 r (by rw [coords_val]; exact hr) ⟨k.val / 256, by omega⟩ (⟨k.val % 256, by omega⟩ : Fin 256)
  rw [emb_rDs] at e
  have hk : (⟨256 * (k.val / 256) + k.val % 256, by omega⟩ : Fin 1792) = k := Fin.ext (by dsimp only; omega)
  dsimp only at e
  rw [hk] at e
  exact e

/-! ## The accumulator -/

theorem xw_apply (p : Fin 5) (r : Fin 512) (k : Fin 1024) :
    xwAll (bX m c t) (bFS m c t) p (ix3 0 r k)
      = Quant.wide (Spec.xcol (arg0 m c) (arg1 m c) (Spec.grp (tokAt t r)) ⟨1024 * p.val + k.val, by omega⟩) (Spec.inGrp (tokAt t r)) := by
  have e := wide_apply lanes128 (xAt (bX m c t) (bFS m c t) ⟨r.val / 128, by omega⟩ (col p ⟨k.val / 128, by omega⟩))
    (⟨r.val % 128, by omega⟩ : Fin 128) (⟨k.val % 128, by omega⟩ : Fin 128)
  rw [x_col] at e
  have hk : (⟨128 * (col p ⟨k.val / 128, by omega⟩).val + k.val % 128, by have := (col p ⟨k.val / 128, by omega⟩).isLt; omega⟩ : Fin 5120)
      = ⟨1024 * p.val + k.val, by omega⟩ := Fin.ext (by show 128 * (8 * p.val + k.val / 128) + k.val % 128 = 1024 * p.val + k.val; omega)
  have hg : grpAt t ⟨r.val / 128, by omega⟩ = Spec.grp (tokAt t r) := Fin.ext (by show 4 * t.val + r.val / 128 = (512 * t.val + r.val) / 128; omega)
  have hi : (⟨r.val % 128, by omega⟩ : Fin 128) = Spec.inGrp (tokAt t r) := Fin.ext (by show r.val % 128 = (512 * t.val + r.val) % 128; omega)
  dsimp only at e
  rw [hk, hg] at e
  refine Eq.trans ?_ (e.trans (congrArg _ hi))
  rfl

theorem dyw_apply (r : Fin 512) (j : Fin 1792) :
    dywAll (bDY m c t) (ix2 r j) = Quant.wide (Spec.dcol (arg2 m c) (Spec.grp (tokAt t r)) j) (Spec.inGrp (tokAt t r)) := by
  have e := wide_apply lanes256 (dyIn (bDY m c t) ⟨r.val / 128, by omega⟩ ⟨j.val / 256, by omega⟩)
    (⟨r.val % 128, by omega⟩ : Fin 128) (⟨j.val % 256, by omega⟩ : Fin 256)
  rw [d_col] at e
  have hk : (⟨256 * (j.val / 256) + j.val % 256, by omega⟩ : Fin 1792) = j := Fin.ext (by dsimp only; omega)
  have hg : grpAt t ⟨r.val / 128, by omega⟩ = Spec.grp (tokAt t r) := Fin.ext (by show 4 * t.val + r.val / 128 = (512 * t.val + r.val) / 128; omega)
  have hi : (⟨r.val % 128, by omega⟩ : Fin 128) = Spec.inGrp (tokAt t r) := Fin.ext (by show r.val % 128 = (512 * t.val + r.val) % 128; omega)
  dsimp only at e
  rw [hk, hg] at e
  refine Eq.trans ?_ (e.trans (congrArg _ hi))
  rfl

/-- The product a point adds, over any blocks. -/
theorem product_apply (W : Vec Ideal S1x512x1024 .bf16) (Y : Vec Ideal S512x1792 .bf16) (k : Fin 1024) (j : Fin 1792) :
    matmul (F := Ideal) (φ₁ := .bf16) (φ₂ := .bf16) dot_S512x1024_S512x1792_S1024x1792_0_0_1_1_n_n none (shapeCast S512x1024 W shapeCasts_S1x512x1024_S512x1024) Y
      (constant S1024x1792 .f32 0x00000000#32) (ix2 k j) = (∑ r : Fin 512, (W (ix3 0 r k) * Y (ix2 r j) : EReal) : EReal) := by
  pointwise

theorem dw_left (D D' : Vec Ideal S5120x1792 .f32) (h : LeavesDw (grid0.coords t) (bX m c t) (bFS m c t) (bDY m c t) D D')
    (k : Fin 5120) (j : Fin 1792) :
    D' (ix2 k j) = (dwFound (F := Ideal) (grid0.coords t) D (ix2 k j)
      + ∑ r : Fin 512, Spec.term (arg0 m c) (arg1 m c) (arg2 m c) k j (tokAt t r) : EReal) := by
  have e := h ⟨k.val / 1024, by omega⟩ (ix2 (⟨k.val % 1024, by omega⟩ : Fin 1024) j)
  have hk : (⟨1024 * (k.val / 1024) + k.val % 1024, by omega⟩ : Fin 5120) = k := Fin.ext (by dsimp only; omega)
  have hemb : (rDw ⟨k.val / 1024, by omega⟩).emb (ix2 (⟨k.val % 1024, by omega⟩ : Fin 1024) j) = ix2 k j :=
    (emb_rDw _ _ _).trans (congrArg (fun q => ix2 q j) hk)
  rw [hemb] at e
  refine e.trans ?_
  have hs (v : Vec Ideal S1024x1792 .f32) : shapeCast S1024x1792 v shapeCasts_S1024x1792_S1024x1792 = v := by
    funext y; pointwise
  rw [hs]
  refine congrArg₂ (· + ·) (congrArg (dwFound (F := Ideal) (grid0.coords t) D) hemb) ?_
  refine (product_apply _ _ _ _).trans (Finset.sum_congr rfl fun r _ => ?_)
  rw [xw_apply, dyw_apply]
  unfold Spec.term
  dsimp only
  rw [hk]

end Cert.KernelIdeal.Hand

end
-- ==== Proof.Arrays.lean ====
/- What the result arrays hold after the run. -/
module

public import proofs.«01_k».proof.Proof.Leaves

@[expose] public section

set_option maxRecDepth 16384

noncomputable section

namespace Cert.KernelIdeal.Hand

open Idealize.ShloMosaic Idealize.ShloMosaic.TcCoe Idealize.ShloMosaic.Tactic Cert.KernelIdeal Cert.KernelIdeal.Gen
open Idealize.ShloMosaic.Pipeline (RDat Cfg Window)

variable (m : (ℓ : Loc nD τ sig) → Buf (Elt Ideal) ℓ) (c : Dev nD)

/-- If every write-back writes `good`, the blocks written so far hold `good`. -/
theorem written (w : Fin cfg0.W) (good : Buf (Elt Ideal) ((cfg0.win w).arr.view.loc (c.tc : Thread nD τ)))
    (hL : ∀ u, (cfg0.win w).flush u = true → ∀ X, (rdat m c).Leaves w u X → ∀ G₀ y,
      ((cfg0.win w).blk u).view.write (Elt Ideal) G₀ ((cfg0.win w).cut (cfg0.grid.coords u) X) Finset.univ (((cfg0.win w).blk u).view.emb y)
        = good (((cfg0.win w).blk u).view.emb y)) :
    ∀ n, n ≤ cfg0.N → ∀ G, (rdat m c).ArrAt w n G → ∀ u : Fin cfg0.N, u.val < n → (cfg0.win w).flush u = true →
      ∀ y, G (((cfg0.win w).blk u).view.emb y) = good (((cfg0.win w).blk u).view.emb y) := by
  intro n
  induction n with
  | zero => exact fun _ _ _ u hu => absurd hu (Nat.not_lt_zero _)
  | succ n ih =>
    intro hn G hG u hu hfu y
    have hs := (rdat m c).ArrAt_succ w ⟨n, hn⟩
    dsimp only at hs
    rw [hs] at hG
    by_cases hf : (cfg0.win w).flush ⟨n, hn⟩ = true
    · rw [if_pos hf] at hG
      obtain ⟨G₀, X, hG₀, hX, rfl⟩ := hG
      by_cases hi : ((cfg0.win w).blk u).view.emb y ∈ ((cfg0.win w).blk ⟨n, hn⟩).view.setOn Finset.univ
      · obtain ⟨x, _, e⟩ := Finset.mem_map.mp hi
        have := hL ⟨n, hn⟩ hf X hX G₀ x
        rw [← e]
        exact this
      · rw [View.write_of_not_mem _ _ _ hi]
        rcases Nat.lt_succ_iff_lt_or_eq.mp hu with h | h
        · exact ih (Nat.le_of_succ_le hn) G₀ hG₀ u h hfu y
        · exact absurd (by
            have e : u = ⟨n, hn⟩ := Fin.ext h
            subst e
            exact Finset.mem_map.mpr ⟨y, Finset.mem_univ _, rfl⟩) hi
    · rw [if_neg hf] at hG
      rcases Nat.lt_succ_iff_lt_or_eq.mp hu with h | h
      · exact ih (Nat.le_of_succ_le hn) G hG u h hfu y
      · have e : u = ⟨n, hn⟩ := Fin.ext h
        rw [e] at hfu
        exact absurd hfu hf

/-! ## The blocks in the arrays -/

/-- Point `t`, of 32. -/
abbrev pt (n : Nat) (h : n < 32) : Fin cfg0.N := ⟨n, lt_of_lt_of_eq h (N_0 : grid0.N = 32).symm⟩

theorem emb_4 (t : Fin cfg0.N) (r : Fin 512) (k : Fin 5120) : ((cfg0.win 4).blk t).view.emb (ix2 r k) = ix2 (tokAt t r) k := by
  obtain ⟨e0, e1⟩ := idx_4 t
  funext a; apply Fin.ext
  match a with
  | ⟨0, _⟩ => show win0_4.index t 0 * 512 + 1 * r.val = 512 * t.val + r.val; omega
  | ⟨1, _⟩ => show win0_4.index t 1 * 5120 + 1 * k.val = k.val; omega

theorem emb_6 (t : Fin cfg0.N) (r : Fin 512) (k : Fin 1792) : ((cfg0.win 6).blk t).view.emb (ix2 r k) = ix2 (tokAt t r) k := by
  obtain ⟨e0, e1⟩ := idx_6 t
  funext a; apply Fin.ext
  match a with
  | ⟨0, _⟩ => show win0_6.index t 0 * 512 + 1 * r.val = 512 * t.val + r.val; omega
  | ⟨1, _⟩ => show win0_6.index t 1 * 1792 + 1 * k.val = k.val; omega

theorem emb_5 (t : Fin cfg0.N) (r : Fin 8) (k : Fin 5120) :
    ((cfg0.win 5).blk t).view.emb (ix2 r k) = ix2 (⟨8 * (t.val / 2) + r.val, by have := points t; omega⟩ : Fin 128) k := by
  obtain ⟨e0, e1⟩ := idx_5 t
  funext a; apply Fin.ext
  match a with
  | ⟨0, _⟩ => show win0_5.index t 0 * 8 + 1 * r.val = 8 * (t.val / 2) + r.val; omega
  | ⟨1, _⟩ => show win0_5.index t 1 * 5120 + 1 * k.val = k.val; omega

theorem emb_7 (t : Fin cfg0.N) (r : Fin 8) (k : Fin 1792) :
    ((cfg0.win 7).blk t).view.emb (ix2 r k) = ix2 (⟨8 * (t.val / 2) + r.val, by have := points t; omega⟩ : Fin 128) k := by
  obtain ⟨e0, e1⟩ := idx_7 t
  funext a; apply Fin.ext
  match a with
  | ⟨0, _⟩ => show win0_7.index t 0 * 8 + 1 * r.val = 8 * (t.val / 2) + r.val; omega
  | ⟨1, _⟩ => show win0_7.index t 1 * 1792 + 1 * k.val = k.val; omega

theorem emb_3 (t : Fin cfg0.N) (r : Fin 5120) (k : Fin 1792) : ((cfg0.win 3).blk t).view.emb (ix2 r k) = ix2 r k := by
  obtain ⟨e0, e1⟩ := idx_3 t
  funext a; apply Fin.ext
  match a with
  | ⟨0, _⟩ => show win0_3.index t 0 * 5120 + 1 * r.val = r.val; omega
  | ⟨1, _⟩ => show win0_3.index t 1 * 1792 + 1 * k.val = k.val; omega

/-! ## The codes -/

theorem xq_array (G) (h : (rdat m c).ArrAt 4 cfg0.N G) (n : Fin 16384) (k : Fin 5120) :
    G (ix2 n k) = Spec.xq (arg0 m c) (arg1 m c) n k := by
  have e := written m c 4 (fun i => Spec.xq (arg0 m c) (arg1 m c) (i 0) (i 1)) (by
    intro u _ X ⟨Y, _, hX⟩ G₀ y
    rw [after_4] at hX
    rw [View.write_emb_of_mem _ _ (Finset.mem_univ _)]
    obtain ⟨r, k, rfl⟩ : ∃ (r : Fin 512) (k : Fin 5120), y = ix2 r k := ⟨y 0, y 1, by funext a; fin_cases a <;> rfl⟩
    rw [emb_4]
    exact xq_left m c u X hX r k) cfg0.N le_rfl G h (pt (n.val / 512) (by omega)) (Fin.isLt _)
    (flush0_4 _) (ix2 (⟨n.val % 512, by omega⟩ : Fin 512) k)
  rw [emb_4] at e
  have hn : tokAt (pt (n.val / 512) (by omega)) ⟨n.val % 512, by omega⟩ = n := Fin.ext (by show 512 * (n.val / 512) + n.val % 512 = n.val; omega)
  rw [hn] at e
  exact e

theorem dq_array (G) (h : (rdat m c).ArrAt 6 cfg0.N G) (n : Fin 16384) (k : Fin 1792) :
    G (ix2 n k) = Spec.dq (arg2 m c) n k := by
  have e := written m c 6 (fun i => Spec.dq (arg2 m c) (i 0) (i 1)) (by
    intro u _ X ⟨Y, _, hX⟩ G₀ y
    rw [after_6] at hX
    rw [View.write_emb_of_mem _ _ (Finset.mem_univ _)]
    obtain ⟨r, k, rfl⟩ : ∃ (r : Fin 512) (k : Fin 1792), y = ix2 r k := ⟨y 0, y 1, by funext a; fin_cases a <;> rfl⟩
    rw [emb_6]
    exact dq_left m c u X hX r k) cfg0.N le_rfl G h (pt (n.val / 512) (by omega)) (Fin.isLt _)
    (flush0_6 _) (ix2 (⟨n.val % 512, by omega⟩ : Fin 512) k)
  rw [emb_6] at e
  have hn : tokAt (pt (n.val / 512) (by omega)) ⟨n.val % 512, by omega⟩ = n := Fin.ext (by show 512 * (n.val / 512) + n.val % 512 = n.val; omega)
  rw [hn] at e
  exact e

/-! ## The scales -/

/-- An output that the point before did not write back is found as that point left it. -/
theorem found (w : Fin cfg0.W) (hout : (cfg0.win w).isOut = true) (u v : Fin cfg0.N) (huv : u.val = v.val + 1)
    (hf : (cfg0.win w).flush v ≠ true) (Y) (h : (rdat m c).Finds w u Y) : (rdat m c).Leaves w v Y := by
  have e : (⟨u.val - 1, Nat.lt_of_le_of_lt (Nat.sub_le _ _) u.isLt⟩ : Fin cfg0.N) = v := Fin.ext (by dsimp only; omega)
  have := (rdat m c).finds_of_pos ((cfg0.win w).fetch_out hout u) (by omega) Y
  rw [e] at this
  exact (this.mp h).resolve_left hf

theorem xs_leaves (u : Fin cfg0.N) (hu : u.val % 2 = 1) (X : Vec Ideal S8x5120 .f32) (h : (rdat m c).Leaves 5 u X) (r : Fin 8) (k : Fin 5120) :
    X (ix2 r k) = Spec.xs (arg0 m c) (arg1 m c) ⟨8 * (u.val / 2) + r.val, by have := points u; omega⟩ k := by
  have hp := points u
  obtain ⟨Y, hY, hX⟩ := h
  rw [after_5] at hX
  by_cases hr : r.val / 4 = 1
  · have e := xs_left m c u Y X hX ⟨r.val - 4, by omega⟩ k
    have h1 : (⟨4 * (u.val % 2) + (r.val - 4), by omega⟩ : Fin 8) = r := Fin.ext (by dsimp only; omega)
    have h2 : grpAt u ⟨r.val - 4, by omega⟩ = ⟨8 * (u.val / 2) + r.val, by omega⟩ := Fin.ext (by dsimp only; omega)
    dsimp only at e
    rw [h1, h2] at e
    exact e
  · have e := xs_kept_left m c u Y X hX r (by omega) k
    have hv : (pt (u.val - 1) (by omega)).val = u.val - 1 := rfl
    obtain ⟨Y', _, hY'⟩ := found m c 5 rfl u (pt (u.val - 1) (by omega)) (by omega) (fun q => by have := (flush0_5 _).mp q; omega) Y hY
    rw [after_5] at hY'
    have e' := xs_left m c (pt (u.val - 1) (by omega)) Y' Y hY' ⟨r.val, by omega⟩ k
    have h1 : (⟨4 * ((pt (u.val - 1) (by omega)).val % 2) + r.val, by omega⟩ : Fin 8) = r := Fin.ext (by dsimp only; omega)
    have h2 : grpAt (pt (u.val - 1) (by omega)) ⟨r.val, by omega⟩ = ⟨8 * (u.val / 2) + r.val, by omega⟩ :=
      Fin.ext (by dsimp only; omega)
    rw [h2] at e'
    exact e.trans ((congrArg (fun q => Y (ix2 q k)) h1).symm.trans e')

theorem ds_leaves (u : Fin cfg0.N) (hu : u.val % 2 = 1) (X : Vec Ideal S8x1792 .f32) (h : (rdat m c).Leaves 7 u X) (r : Fin 8) (k : Fin 1792) :
    X (ix2 r k) = Spec.ds (arg2 m c) ⟨8 * (u.val / 2) + r.val, by have := points u; omega⟩ k := by
  have hp := points u
  obtain ⟨Y, hY, hX⟩ := h
  rw [after_7] at hX
  by_cases hr : r.val / 4 = 1
  · have e := ds_left m c u Y X hX ⟨r.val - 4, by omega⟩ k
    have h1 : (⟨4 * (u.val % 2) + (r.val - 4), by omega⟩ : Fin 8) = r := Fin.ext (by dsimp only; omega)
    have h2 : grpAt u ⟨r.val - 4, by omega⟩ = ⟨8 * (u.val / 2) + r.val, by omega⟩ := Fin.ext (by dsimp only; omega)
    dsimp only at e
    rw [h1, h2] at e
    exact e
  · have e := ds_kept_left m c u Y X hX r (by omega) k
    have hv : (pt (u.val - 1) (by omega)).val = u.val - 1 := rfl
    obtain ⟨Y', _, hY'⟩ := found m c 7 rfl u (pt (u.val - 1) (by omega)) (by omega) (fun q => by have := (flush0_7 _).mp q; omega) Y hY
    rw [after_7] at hY'
    have e' := ds_left m c (pt (u.val - 1) (by omega)) Y' Y hY' ⟨r.val, by omega⟩ k
    have h1 : (⟨4 * ((pt (u.val - 1) (by omega)).val % 2) + r.val, by omega⟩ : Fin 8) = r := Fin.ext (by dsimp only; omega)
    have h2 : grpAt (pt (u.val - 1) (by omega)) ⟨r.val, by omega⟩ = ⟨8 * (u.val / 2) + r.val, by omega⟩ :=
      Fin.ext (by dsimp only; omega)
    rw [h2] at e'
    exact e.trans ((congrArg (fun q => Y (ix2 q k)) h1).symm.trans e')

theorem xs_array (G) (h : (rdat m c).ArrAt 5 cfg0.N G) (n : Fin 128) (k : Fin 5120) :
    G (ix2 n k) = Spec.xs (arg0 m c) (arg1 m c) n k := by
  have e := written m c 5 (fun i => Spec.xs (arg0 m c) (arg1 m c) (i 0) (i 1)) (by
    intro u hu X hX G₀ y
    rw [View.write_emb_of_mem _ _ (Finset.mem_univ _)]
    obtain ⟨r, k, rfl⟩ : ∃ (r : Fin 8) (k : Fin 5120), y = ix2 r k := ⟨y 0, y 1, by funext a; fin_cases a <;> rfl⟩
    rw [emb_5]
    exact xs_leaves m c u ((flush0_5 u).mp hu) X hX r k) cfg0.N le_rfl G h (pt (2 * (n.val / 8) + 1) (by omega))
    (Fin.isLt _)
    ((flush0_5 _).mpr (by dsimp only; omega)) (ix2 (⟨n.val % 8, by omega⟩ : Fin 8) k)
  rw [emb_5] at e
  have hn : (⟨8 * ((pt (2 * (n.val / 8) + 1) (by omega)).val / 2) + n.val % 8, by dsimp only; omega⟩ : Fin 128) = n := Fin.ext (by dsimp only; omega)
  dsimp only at e hn
  rw [hn] at e
  exact e

theorem ds_array (G) (h : (rdat m c).ArrAt 7 cfg0.N G) (n : Fin 128) (k : Fin 1792) :
    G (ix2 n k) = Spec.ds (arg2 m c) n k := by
  have e := written m c 7 (fun i => Spec.ds (arg2 m c) (i 0) (i 1)) (by
    intro u hu X hX G₀ y
    rw [View.write_emb_of_mem _ _ (Finset.mem_univ _)]
    obtain ⟨r, k, rfl⟩ : ∃ (r : Fin 8) (k : Fin 1792), y = ix2 r k := ⟨y 0, y 1, by funext a; fin_cases a <;> rfl⟩
    rw [emb_7]
    exact ds_leaves m c u ((flush0_7 u).mp hu) X hX r k) cfg0.N le_rfl G h (pt (2 * (n.val / 8) + 1) (by omega))
    (Fin.isLt _)
    ((flush0_7 _).mpr (by dsimp only; omega)) (ix2 (⟨n.val % 8, by omega⟩ : Fin 8) k)
  rw [emb_7] at e
  have hn : (⟨8 * ((pt (2 * (n.val / 8) + 1) (by omega)).val / 2) + n.val % 8, by dsimp only; omega⟩ : Fin 128) = n := Fin.ext (by dsimp only; omega)
  dsimp only at e hn
  rw [hn] at e
  exact e

/-! ## The weight gradient -/

theorem first_iff : ∀ t : Fin cfg0.N, first (grid0.coords t) ↔ t.val = 0 :=
  (by decide +kernel : ∀ t : Fin grid0.N, first (grid0.coords t) ↔ t.val = 0)

/-- The terms of point `u`. -/
def part (k : Fin 5120) (j : Fin 1792) (u : Nat) : EReal :=
  if h : u < 32 then ∑ r : Fin 512, Spec.term (arg0 m c) (arg1 m c) (arg2 m c) k j (tokAt (pt u h) r) else 0

theorem part_eq (k : Fin 5120) (j : Fin 1792) (t : Fin cfg0.N) :
    part m c k j t.val = ∑ r : Fin 512, Spec.term (arg0 m c) (arg1 m c) (arg2 m c) k j (tokAt t r) := by
  unfold part
  rw [dif_pos (points t)]

/-- After point `n` the accumulator holds the terms of the points up to `n`. -/
theorem dw_leaves : ∀ (n : Nat) (t : Fin cfg0.N), t.val = n → ∀ X : Vec Ideal S5120x1792 .f32, (rdat m c).Leaves 3 t X → ∀ k j,
    X (ix2 k j) = ∑ u ∈ Finset.range (n + 1), part m c k j u := by
  intro n
  induction n with
  | zero =>
    intro t ht X ⟨Y, _, hX⟩ k j
    rw [after_3] at hX
    refine (dw_left m c t Y X hX k j).trans ?_
    have hz : (dwFound (F := Ideal) (grid0.coords t) Y (ix2 k j) : EReal) = 0 := by
      unfold dwFound
      rw [if_pos ((first_iff t).mpr ht)]
      exact Ideal.ofBits_zero_f32
    rw [hz, zero_add, Finset.sum_range_one, ← part_eq, ht]
  | succ n ih =>
    intro t ht X ⟨Y, hY, hX⟩ k j
    rw [after_3] at hX
    have hp := points t
    refine (dw_left m c t Y X hX k j).trans ?_
    have hL := found m c 3 rfl t (pt n (by omega)) ht (fun q => by have h := (flush0_3 _).mp q; dsimp only at h; omega) Y hY
    have hd : (dwFound (F := Ideal) (grid0.coords t) Y (ix2 k j) : EReal) = ∑ u ∈ Finset.range (n + 1), part m c k j u := by
      unfold dwFound
      rw [if_neg (fun q => by have := (first_iff t).mp q; omega)]
      exact ih (pt n (by omega)) rfl Y hL k j
    rw [hd, Finset.sum_range_succ _ (n + 1), ← part_eq, ht]

theorem parts_sum (k : Fin 5120) (j : Fin 1792) :
    ∑ u ∈ Finset.range 32, part m c k j u = Spec.dw (arg0 m c) (arg1 m c) (arg2 m c) k j := by
  unfold Spec.dw
  rw [Finset.sum_range]
  have e : ∀ u : Fin 32, part m c k j u.val
      = ∑ r : Fin 512, Spec.term (arg0 m c) (arg1 m c) (arg2 m c) k j (finProdFinEquiv (m := 32) (n := 512) (u, r)) := fun u => by
    refine (part_eq m c k j (pt u.val u.isLt)).trans (Finset.sum_congr rfl fun r _ => congrArg _ (Fin.ext ?_))
    show 512 * u.val + r.val = r.val + 512 * u.val
    omega
  rw [Finset.sum_congr rfl fun u _ => e u, ← Fintype.sum_prod_type']
  exact Equiv.sum_comp (finProdFinEquiv (m := 32) (n := 512)) (Spec.term (arg0 m c) (arg1 m c) (arg2 m c) k j)

theorem dw_array (G) (h : (rdat m c).ArrAt 3 cfg0.N G) (k : Fin 5120) (j : Fin 1792) :
    G (ix2 k j) = Spec.dw (arg0 m c) (arg1 m c) (arg2 m c) k j := by
  have e := written m c 3 (fun i => Spec.dw (arg0 m c) (arg1 m c) (arg2 m c) (i 0) (i 1)) (by
    intro u hu X hX G₀ y
    rw [View.write_emb_of_mem _ _ (Finset.mem_univ _)]
    obtain ⟨r, k, rfl⟩ : ∃ (r : Fin 5120) (k : Fin 1792), y = ix2 r k := ⟨y 0, y 1, by funext a; fin_cases a <;> rfl⟩
    rw [emb_3]
    have hp := points u
    have hu' := (flush0_3 u).mp hu
    exact (dw_leaves m c 31 u (by omega) X hX r k).trans (parts_sum m c r k)) cfg0.N le_rfl G h (pt 31 (by omega))
    (Fin.isLt _)
    ((flush0_3 _).mpr rfl) (ix2 k j)
  rw [emb_3] at e
  exact e

end Cert.KernelIdeal.Hand

end
-- ==== Proof.RefRun.lean ====
/- The reference's run, read: it is one grid point whose blocks are the whole arrays, so each result is one expression of the
   arguments. -/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The results and the arguments after the run -/

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_4) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S8x2048x5120.Idx) : ((cfg0.win 0).blk t).view.emb j = j := by
  obtain ⟨e0, e1, e2⟩ := idx_zero0 t
  funext a; apply Fin.ext
  match a with
  | ⟨0, _⟩ => show win0_0.index t (0 : Fin 3) * 8 + 1 * (j 0).val = (j 0).val; omega
  | ⟨1, _⟩ => show win0_0.index t (1 : Fin 3) * 2048 + 1 * (j 1).val = (j 1).val; omega
  | ⟨2, _⟩ => show win0_0.index t (2 : Fin 3) * 5120 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S8x2048x40.Idx) : ((cfg0.win 1).blk t).view.emb j = j := by
  obtain ⟨e0, e1, e2⟩ := idx_zero1 t
  funext a; apply Fin.ext
  match a with
  | ⟨0, _⟩ => show win0_1.index t (0 : Fin 3) * 8 + 1 * (j 0).val = (j 0).val; omega
  | ⟨1, _⟩ => show win0_1.index t (1 : Fin 3) * 2048 + 1 * (j 1).val = (j 1).val; omega
  | ⟨2, _⟩ => show win0_1.index t (2 : Fin 3) * 40 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S8x2048x1792.Idx) : ((cfg0.win 2).blk t).view.emb j = j := by
  obtain ⟨e0, e1, e2⟩ := idx_zero2 t
  funext a; apply Fin.ext
  match a with
  | ⟨0, _⟩ => show win0_2.index t (0 : Fin 3) * 8 + 1 * (j 0).val = (j 0).val; omega
  | ⟨1, _⟩ => show win0_2.index t (1 : Fin 3) * 2048 + 1 * (j 1).val = (j 1).val; omega
  | ⟨2, _⟩ => show win0_2.index t (2 : Fin 3) * 1792 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S5120x1792.Idx) : ((cfg0.win 3).blk t).view.emb j = j := by
  obtain ⟨e0, e1⟩ := idx_zero3 t
  funext a; apply Fin.ext
  match a with
  | ⟨0, _⟩ => show win0_3.index t (0 : Fin 2) * 5120 + 1 * (j 0).val = (j 0).val; omega
  | ⟨1, _⟩ => show win0_3.index t (1 : Fin 2) * 1792 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S16384x5120.Idx) : ((cfg0.win 4).blk t).view.emb j = j := by
  obtain ⟨e0, e1⟩ := idx_zero4 t
  funext a; apply Fin.ext
  match a with
  | ⟨0, _⟩ => show win0_4.index t (0 : Fin 2) * 16384 + 1 * (j 0).val = (j 0).val; omega
  | ⟨1, _⟩ => show win0_4.index t (1 : Fin 2) * 5120 + 1 * (j 1).val = (j 1).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S128x5120.Idx) : ((cfg0.win 5).blk t).view.emb j = j := by
  obtain ⟨e0, e1⟩ := idx_zero5 t
  funext a; apply Fin.ext
  match a with
  | ⟨0, _⟩ => show win0_5.index t (0 : Fin 2) * 128 + 1 * (j 0).val = (j 0).val; omega
  | ⟨1, _⟩ => show win0_5.index t (1 : Fin 2) * 5120 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S16384x1792.Idx) : ((cfg0.win 6).blk t).view.emb j = j := by
  obtain ⟨e0, e1⟩ := idx_zero6 t
  funext a; apply Fin.ext
  match a with
  | ⟨0, _⟩ => show win0_6.index t (0 : Fin 2) * 16384 + 1 * (j 0).val = (j 0).val; omega
  | ⟨1, _⟩ => show win0_6.index t (1 : Fin 2) * 1792 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S128x1792.Idx) : ((cfg0.win 7).blk t).view.emb j = j := by
  obtain ⟨e0, e1⟩ := idx_zero7 t
  funext a; apply Fin.ext
  match a with
  | ⟨0, _⟩ => show win0_7.index t (0 : Fin 2) * 128 + 1 * (j 0).val = (j 0).val; omega
  | ⟨1, _⟩ => show win0_7.index t (1 : Fin 2) * 1792 + 1 * (j 1).val = (j 1).val; omega

/-! ### Output window 3: the array after the run -/

/-- What the window's array ends holding: `out0_3` applied to the argument arrays in place of the input blocks (a value that the
    frame states apart, `kK_payN a…`, keeps its loads inside its own definition). -/
abbrev G3 (a0 : Vec F S8x2048x5120 .fp8e4m3) (a1 : Vec F S8x2048x40 .f32) (a2 : Vec F S8x2048x1792 .bf16) : Vec F S5120x1792 .f32 :=
  k0_pay11 (k0_pay12 a0 a1 a2) (k0_pay13 a0 a1 a2) (k0_pay14 a0 a1 a2)

/-- The one store through the whole rectangle leaves its payload. -/
theorem out3_eq (a0 : Vec F S8x2048x5120 .fp8e4m3) (a1 : Vec F S8x2048x40 .f32) (a2 : Vec F S8x2048x1792 .bf16) : out0_3 (F := F) a0 a1 a2 = G3 a0 a1 a2 := by
  unfold out0_3
  rw [View.canon_unit_zero hz3]

/-- Cutting the point's block out of `X` and reading `X` through the block's view give the same. -/
theorem cut3_eq (t : Fin cfg0.N) (X : Vec F S5120x1792 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S5120x1792.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S8x2048x5120 .fp8e4m3) (a1 : Vec F S8x2048x40 .f32) (a2 : Vec F S8x2048x1792 .bf16) : Vec F S16384x5120 .fp8e4m3 :=
  k0_pay6 (k0_pay14 a0 a1 a2)

/-- The one store through the whole rectangle leaves its payload. -/
theorem out4_eq (a0 : Vec F S8x2048x5120 .fp8e4m3) (a1 : Vec F S8x2048x40 .f32) (a2 : Vec F S8x2048x1792 .bf16) : out0_4 (F := F) a0 a1 a2 = G4 a0 a1 a2 := by
  unfold out0_4
  rw [View.canon_unit_zero hz4]

/-- Cutting the point's block out of `X` and reading `X` through the block's view give the same. -/
theorem cut4_eq (t : Fin cfg0.N) (X : Vec F S16384x5120 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S16384x5120.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S8x2048x5120 .fp8e4m3) (a1 : Vec F S8x2048x40 .f32) (a2 : Vec F S8x2048x1792 .bf16) : Vec F S128x5120 .f32 :=
  k0_pay13 a0 a1 a2

/-- The one store through the whole rectangle leaves its payload. -/
theorem out5_eq (a0 : Vec F S8x2048x5120 .fp8e4m3) (a1 : Vec F S8x2048x40 .f32) (a2 : Vec F S8x2048x1792 .bf16) : out0_5 (F := F) a0 a1 a2 = G5 a0 a1 a2 := by
  unfold out0_5
  rw [View.canon_unit_zero hz5]

/-- Cutting the point's block out of `X` and reading `X` through the block's view give the same. -/
theorem cut5_eq (t : Fin cfg0.N) (X : Vec F S128x5120 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S128x5120.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks (a value that the
    frame states apart, `kK_payN a…`, keeps its loads inside its own definition). -/
abbrev G6 (a0 : Vec F S8x2048x5120 .fp8e4m3) (a1 : Vec F S8x2048x40 .f32) (a2 : Vec F S8x2048x1792 .bf16) : Vec F S16384x1792 .fp8e4m3 :=
  k0_pay10 (k0_pay12 a0 a1 a2)

/-- The one store through the whole rectangle leaves its payload. -/
theorem out6_eq (a0 : Vec F S8x2048x5120 .fp8e4m3) (a1 : Vec F S8x2048x40 .f32) (a2 : Vec F S8x2048x1792 .bf16) : out0_6 (F := F) a0 a1 a2 = G6 a0 a1 a2 := by
  unfold out0_6
  rw [View.canon_unit_zero hz6]

/-- Cutting the point's block out of `X` and reading `X` through the block's view give the same. -/
theorem cut6_eq (t : Fin cfg0.N) (X : Vec F S16384x1792 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S16384x1792.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ### Output window 7: the array after the run -/

/-- What the window's array ends holding: `out0_7` applied to the argument arrays in place of the input blocks (a value that the
    frame states apart, `kK_payN a…`, keeps its loads inside its own definition). -/
abbrev G7 (a0 : Vec F S8x2048x5120 .fp8e4m3) (a1 : Vec F S8x2048x40 .f32) (a2 : Vec F S8x2048x1792 .bf16) : Vec F S128x1792 .f32 :=
  k0_pay9 (k0_pay12 a0 a1 a2)

/-- The one store through the whole rectangle leaves its payload. -/
theorem out7_eq (a0 : Vec F S8x2048x5120 .fp8e4m3) (a1 : Vec F S8x2048x40 .f32) (a2 : Vec F S8x2048x1792 .bf16) : out0_7 (F := F) a0 a1 a2 = G7 a0 a1 a2 := by
  unfold out0_7
  rw [View.canon_unit_zero hz7]

/-- Cutting the point's block out of `X` and reading `X` through the block's view give the same. -/
theorem cut7_eq (t : Fin cfg0.N) (X : Vec F S128x1792 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2)) := by
  show (cfg0.win 7).cut (grid0.coords t) ((dats m 0 c).after 7 t) = _
  rw [after0_7, out7_eq, iblk0_eq, iblk1_eq, iblk2_eq]
  exact cut7_eq t _

/-- Every index of the array is in the point's block. -/
theorem covered7 (i : S128x1792.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) :=
  ((dats m 0 c).arrAt_eq_of_cover 7 (G7 (V m c main_arg0) (V m c main_arg1) (V m c main_arg2)) (fun t _ => flushed7_eq m c t) covered7).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      (post6 m r h c).trans (final6 m c),
      (post7 m r h c).trans (final7 m c),
      kept_main_arg0 m r h c,
      kept_main_arg1 m r h c,
      kept_main_arg2 m r h c⟩)
    (run_main m ρ)

end Cert.ReferenceIdeal.Hand

end
-- ==== Proof.RefSpec.lean ====
/- The reference's five results are the functions of `Spec`. -/
module

public import proofs.«01_k».proof.Proof.RefRun
public import proofs.«01_k».proof.Proof.Spec
public import Idealize.ShloMosaic.Lib.Pointwise
public import Idealize.ShloMosaic.Lib.Pointwise.IndexVar

@[expose] public section

noncomputable section

namespace Cert.ReferenceIdeal.Hand

open Idealize.ShloMosaic Cert.ReferenceIdeal Cert.ReferenceIdeal.Gen

/-! ## The reference's quantiser on `n` columns of 128 groups -/

/-- 128 groups of 128 tokens. -/
abbrev Tok (n : ℕ) : Shape := ⟨3, ![128, 128, n]⟩
/-- One row for each group. -/
abbrev Grp (n : ℕ) : Shape := ⟨2, ![128, n]⟩
/-- The same with a unit axis. -/
abbrev Grp1 (n : ℕ) : Shape := ⟨3, ![128, 1, n]⟩
/-- All tokens. -/
abbrev Flat (n : ℕ) : Shape := ⟨2, ![16384, n]⟩

/-- The shape facts the operations state. -/
structure Lanes (n : ℕ) : Prop where
  red : (Tok n).Reduces [1] (Grp n)
  unit : (Grp n).ShapeCasts (Grp1 n)
  spread : (Grp1 n).Broadcasts (Tok n)
  flat : (Tok n).ShapeCasts (Flat n)

theorem lanesX : Lanes 5120 :=
  ⟨reduces_S128x128x5120_S128x5120, shapeCasts_S128x5120_S128x1x5120, broadcasts_S128x1x5120_S128x128x5120, shapeCasts_S128x128x5120_S16384x5120⟩
theorem lanesD : Lanes 1792 :=
  ⟨reduces_S128x128x1792_S128x1792, shapeCasts_S128x1792_S128x1x1792, broadcasts_S128x1x1792_S128x128x1792, shapeCasts_S128x128x1792_S16384x1792⟩

section Quantiser

variable {n : ℕ} (L : Lanes n) (v : FVec Ideal (Tok n) .f32)

/-- Each group's largest magnitude over 448. -/
def ratio : FVec Ideal (Grp n) .f32 :=
  mulf (multiReduction .maximumf [1] (Grp n) (absf v) 0xFF800000#32 L.red (.inl rfl) rfl) (broadcast (Grp n) (Scalar.ofBits .f32 0x3B124925#32))

/-- The exponents. -/
def expo : FVec Ideal (Grp n) .f32 :=
  select (cmpf .olt (ratio L v) (broadcast (Grp n) (Scalar.ofBits .f32 0x00800000#32))) (broadcast (Grp n) (Scalar.ofBits .f32 0x00000000#32))
    (minimumf (addf (floor (divf (log (ratio L v)) (log (broadcast (Grp n) (Scalar.ofBits .f32 0x40000000#32)))))
      (broadcast (Grp n) (Scalar.ofBits .f32 0x3F800000#32))) (broadcast (Grp n) (Scalar.ofBits .f32 0x42FC0000#32)))

/-- The scales. -/
def scale : FVec Ideal (Grp n) .f32 := exp2 (expo L v)

/-- One value for each group given to its tokens. -/
def toTokens {φ : FTy} (s : FVec Ideal (Grp n) φ) : FVec Ideal (Tok n) φ := broadcastTo (Tok n) (shapeCast (Grp1 n) s L.unit) L.spread

/-- The codes. -/
def codes : FVec Ideal (Tok n) .fp8e4m3 :=
  truncf .fp8e4m3 (minimumf (broadcast (Tok n) (Scalar.ofBits .f32 0x43E00000#32)) (maximumf (broadcast (Tok n) (Scalar.ofBits .f32 0xC3E00000#32))
    (mulf v (toTokens L (exp2 (subf (broadcast (Grp n) (Scalar.ofBits .f32 0x00000000#32)) (expo L v))))))) bitsLt_fp8e4m3_f32

/-- Column `l` of group `G`. -/
abbrev colOf (G : Fin 128) (l : Fin n) : Fin 128 → EReal := fun r => v (ix3 G r l)

theorem one_lane (l : Fin n) (h0 : n = 1 → 0 < n) : (if h : n = 1 then (⟨0, h0 h⟩ : Fin n) else l) = l := by
  split
  · next h => subst h; exact Subsingleton.elim _ _
  · rfl

theorem toTokens_apply {φ : FTy} (s : FVec Ideal (Grp n) φ) (G r : Fin 128) (l : Fin n) : toTokens L s (ix3 G r l) = s (ix2 G l) := by
  have e : toTokens L s (ix3 G r l) = shapeCast (Grp1 n) s L.unit (ix3 G (0 : Fin 1) l) := by
    unfold toTokens broadcastTo
    refine congrArg (shapeCast (Grp1 n) s L.unit) (funext fun a => ?_)
    match a with
    | ⟨0, _⟩ => rfl
    | ⟨1, _⟩ => rfl
    | ⟨2, _⟩ => exact one_lane l _
  rw [e]
  refine congrArg s (Shape.reshapeEquiv_eq_of_rowMajor L.unit ?_)
  rw [Shape.rowMajor_val_two, Shape.rowMajor_val_three]
  show G.val * n + l.val = (G.val * 1 + 0) * n + l.val
  simp

theorem flat_apply {α : Type} (s : (Tok n).Idx → α) (t : Fin 16384) (l : Fin n) :
    shapeCast (Flat n) s L.flat (ix2 t l) = s (ix3 (Spec.grp t) (Spec.inGrp t) l) := by
  refine congrArg s (Shape.reshapeEquiv_eq_of_rowMajor L.flat ?_)
  rw [Shape.rowMajor_val_two, Shape.rowMajor_val_three]
  show (t.val / 128 * 128 + t.val % 128) * n + l.val = t.val * n + l.val
  rw [Nat.div_add_mod']

theorem ofBits_bot : Ideal.ofBits .f32 0xFF800000#32 = ⊥ := by simp [Ideal.ofBits, Ideal.ieee]

theorem ratio_apply (G : Fin 128) (l : Fin n) : ratio L v (ix2 G l) = Quant.ratio (colOf v G l) := by
  have e : multiReduction .maximumf [1] (Grp n) (absf v) 0xFF800000#32 L.red (.inl rfl) rfl (ix2 G l) = Quant.amax (colOf v G l) := by
    refine (Ideal.multiReduction_maximumf_single _ _ L.red _ _ _).trans ?_
    unfold Quant.amax
    refine (congrArg (fun b : EReal => Finset.fold max b (absf v ∘ L.red.lift (ix2 G l)) Finset.univ) ofBits_bot).trans ?_
    refine congrArg (fun f => Finset.fold max ⊥ f Finset.univ) (funext fun r => ?_)
    have hl : L.red.lift (ix2 G l) r = ix3 G r l := by
      funext a
      apply Fin.ext
      rw [L.red.lift_val]
      match a with
      | ⟨0, _⟩ => rfl
      | ⟨1, _⟩ => rfl
      | ⟨2, _⟩ => rfl
    show max (v (L.red.lift (ix2 G l) r)) (-(v (L.red.lift (ix2 G l) r))) = _
    rw [hl]; rfl
  have e' : ratio L v (ix2 G l) = (multiReduction .maximumf [1] (Grp n) (absf v) 0xFF800000#32 L.red (.inl rfl) rfl (ix2 G l) : EReal)
      * Ideal.ofBits .f32 0x3B124925#32 := rfl
  rw [e', e]
  rfl

theorem select_olt (y z a b : EReal) : (if Ideal.cmp .olt y z = 1#1 then a else b) = if y < z then a else b := by
  show (if BitVec.ofBool (decide (y < z)) = 1#1 then a else b) = _
  by_cases h : y < z
  · rw [decide_eq_true h, if_pos h]; rfl
  · rw [decide_eq_false h, if_neg h]; rfl

theorem expo_apply (G : Fin 128) (l : Fin n) : expo L v (ix2 G l) = Quant.expo (Quant.ratio (colOf v G l)) := by
  rw [← ratio_apply L v G l]
  unfold Quant.expo
  rw [← select_olt]
  rfl

theorem scale_apply (G : Fin 128) (l : Fin n) : scale L v (ix2 G l) = Quant.scale (colOf v G l) :=
  congrArg Ideal.exp2 (expo_apply L v G l)

theorem codes_apply (G r : Fin 128) (l : Fin n) : codes L v (ix3 G r l) = Quant.code (colOf v G l) r := by
  have e : codes L v (ix3 G r l) = min (Ideal.ofBits .f32 0x43E00000#32) (max (Ideal.ofBits .f32 0xC3E00000#32) (v (ix3 G r l)
      * toTokens L (exp2 (subf (broadcast (Grp n) (Scalar.ofBits .f32 0x00000000#32)) (expo L v))) (ix3 G r l))) := rfl
  rw [e, toTokens_apply]
  exact congrArg (fun x => min (Ideal.ofBits .f32 0x43E00000#32) (max (Ideal.ofBits .f32 0xC3E00000#32)
    (v (ix3 G r l) * Ideal.exp2 (Ideal.ofBits .f32 0x00000000#32 - x)))) (expo_apply L v G l)

end Quantiser

/-! ## The results -/

variable (a0 : Vec Ideal S8x2048x5120 .fp8e4m3) (a1 : Vec Ideal S8x2048x40 .f32) (a2 : Vec Ideal S8x2048x1792 .bf16)

/-- `x` in groups, and `dy`. -/
abbrev tx : FVec Ideal (Tok 5120) .f32 := k0_pay2 a0 a1
abbrev td : FVec Ideal (Tok 1792) .f32 := k0_pay7 (k0_pay1 a2)

theorem tx_col (G : Fin 128) (k : Fin 5120) : colOf (tx a0 a1) G k = Spec.xcol a0 a1 G k := by
  funext r
  show k0_pay2 a0 a1 (ix3 G r k) = Spec.xv a0 a1 (Spec.tok G r) k
  unfold k0_pay2 Spec.xv
  pointwise
  rw [show Spec.bat (Spec.tok G r) = ⟨G.val / 16, by omega⟩ from Fin.ext (show (128 * G.val + r.val) / 2048 = G.val / 16 by omega),
    show Spec.pos (Spec.tok G r) = ⟨G.val % 16 * 128 + r.val, by omega⟩ from
      Fin.ext (show (128 * G.val + r.val) % 2048 = G.val % 16 * 128 + r.val by omega)]

theorem td_col (G : Fin 128) (j : Fin 1792) : colOf (td a2) G j = Spec.dcol a2 G j := by
  funext r
  show k0_pay7 (k0_pay1 a2) (ix3 G r j) = Spec.dv a2 (Spec.tok G r) j
  unfold k0_pay7 k0_pay1 Spec.dv
  pointwise
  rw [show Spec.bat (Spec.tok G r) = ⟨(G.val * 128 + r.val) / 2048, by omega⟩ from
      Fin.ext (show (128 * G.val + r.val) / 2048 = (G.val * 128 + r.val) / 2048 by omega),
    show Spec.pos (Spec.tok G r) = ⟨(G.val * 128 + r.val) % 2048, by omega⟩ from
      Fin.ext (show (128 * G.val + r.val) % 2048 = (G.val * 128 + r.val) % 2048 by omega)]

theorem pay4_eq : k0_pay4 a0 a1 = scale lanesX (tx a0 a1) := rfl
theorem pay5_eq : k0_pay5 a0 a1 = codes lanesX (tx a0 a1) := rfl
theorem pay9_eq : k0_pay9 (k0_pay1 a2) = scale lanesD (td a2) := rfl
theorem pay10_eq : k0_pay10 (k0_pay1 a2) = shapeCast (Flat 1792) (codes lanesD (td a2)) lanesD.flat := rfl

theorem pay12_eq : k0_pay12 a0 a1 a2 = k0_pay1 a2 := by
  unfold k0_pay12; rw [View.ld_unit_zero hz2]
theorem pay13_eq : k0_pay13 a0 a1 a2 = k0_pay4 a0 a1 := by
  unfold k0_pay13; rw [View.ld_unit_zero hz0, View.ld_unit_zero hz1]
theorem pay14_eq : k0_pay14 a0 a1 a2 = k0_pay5 a0 a1 := by
  unfold k0_pay14; rw [View.ld_unit_zero hz0, View.ld_unit_zero hz1]

theorem G5_apply (G : Fin 128) (k : Fin 5120) : G5 a0 a1 a2 (ix2 G k) = Spec.xs a0 a1 G k := by
  unfold G5
  rw [pay13_eq, pay4_eq, scale_apply, tx_col]; rfl

theorem G7_apply (G : Fin 128) (j : Fin 1792) : G7 a0 a1 a2 (ix2 G j) = Spec.ds a2 G j := by
  unfold G7
  rw [pay12_eq, pay9_eq, scale_apply, td_col]; rfl

theorem G4_apply (n : Fin 16384) (k : Fin 5120) : G4 a0 a1 a2 (ix2 n k) = Spec.xq a0 a1 n k := by
  unfold G4
  rw [pay14_eq, pay5_eq]
  refine (flat_apply lanesX (codes lanesX (tx a0 a1)) n k).trans ?_
  rw [codes_apply, tx_col]; rfl

theorem G6_apply (n : Fin 16384) (j : Fin 1792) : G6 a0 a1 a2 (ix2 n j) = Spec.dq a2 n j := by
  unfold G6
  rw [pay12_eq, pay10_eq, flat_apply lanesD, codes_apply, td_col]; rfl

/-- The product's operands. -/
def wide {n : ℕ} (L : Lanes n) (v : FVec Ideal (Tok n) .f32) : FVec Ideal (Flat n) .bf16 :=
  mulf (extf .bf16 (shapeCast (Flat n) (codes L v) L.flat) bitsLt_fp8e4m3_bf16)
    (shapeCast (Flat n) (toTokens L (truncf .bf16 (scale L v) bitsLt_bf16_f32)) L.flat)

theorem wide_apply {n : ℕ} (L : Lanes n) (v : FVec Ideal (Tok n) .f32) (t : Fin 16384) (l : Fin n) :
    wide L v (ix2 t l) = Quant.wide (colOf v (Spec.grp t) l) (Spec.inGrp t) := by
  have e : wide L v (ix2 t l) = (shapeCast (Flat n) (codes L v) L.flat (ix2 t l) : EReal)
    * (shapeCast (Flat n) (toTokens L (truncf .bf16 (scale L v) bitsLt_bf16_f32)) L.flat (ix2 t l) : EReal) := rfl
  rw [e, flat_apply L, flat_apply L, toTokens_apply, codes_apply]
  exact congrArg (fun x => Quant.code (colOf v (Spec.grp t) l) (Spec.inGrp t) * x) (scale_apply L v _ l)

theorem pay11_eq : k0_pay11 (k0_pay1 a2) (k0_pay4 a0 a1) (k0_pay5 a0 a1)
    = matmul dot_S16384x5120_S16384x1792_S5120x1792_0_0_1_1_n_n none (wide lanesX (tx a0 a1)) (wide lanesD (td a2))
      (constant S5120x1792 .f32 0x00000000#32) := rfl

theorem G3_apply (k : Fin 5120) (j : Fin 1792) : G3 a0 a1 a2 (ix2 k j) = Spec.dw a0 a1 a2 k j := by
  unfold G3
  rw [pay12_eq, pay13_eq, pay14_eq, pay11_eq]
  unfold Spec.dw
  have hx : ∀ n, wide lanesX (tx a0 a1) (ix2 n k) = Quant.wide (Spec.xcol a0 a1 (Spec.grp n) k) (Spec.inGrp n) := fun n => by
    rw [wide_apply, tx_col]
  have hd : ∀ n, wide lanesD (td a2) (ix2 n j) = Quant.wide (Spec.dcol a2 (Spec.grp n) j) (Spec.inGrp n) := fun n => by
    rw [wide_apply, td_col]
  generalize wide lanesX (tx a0 a1) = P at hx ⊢
  generalize wide lanesD (td a2) = Q at hd ⊢
  pointwise
  exact Finset.sum_congr rfl fun n _ => congrArg₂ (· * ·) (hx n) (hd n)

end Cert.ReferenceIdeal.Hand

end
-- ==== Proof.Algebraic.lean ====
/- The kernel and the reference compute the same five results. -/
module

public import proofs.«01_k».proof.Defs
public import proofs.«01_k».proof.Proof.Arrays
public import proofs.«01_k».proof.Proof.RefSpec

@[expose] public section

set_option maxRecDepth 16384

noncomputable section

namespace Cert.KernelIdeal.Hand

open Idealize.ShloMosaic Idealize.ShloMosaic.TcCoe Idealize.SL.Sem Cert.KernelIdeal Cert.KernelIdeal.Gen
open Cert.ReferenceIdeal.Hand (G3 G4 G5 G6 G7 G3_apply G4_apply G5_apply G6_apply G7_apply)

/-- Arrays of two axes are equal when they agree at every pair. -/
theorem ext2 {a b : Nat} {α : Type} (f g : (⟨2, ![a, b]⟩ : Shape).Idx → α) (h : ∀ (i : Fin a) (j : Fin b), f (ix2 i j) = g (ix2 i j)) : f = g := by
  funext x
  have e : x = ix2 (x 0) (x 1) := by funext k; fin_cases k <;> rfl
  rw [e]
  exact h _ _

/-- The kernel's run, its results named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3_0) = G3 (F := Ideal) (arg0 m c) (arg1 m c) (arg2 m c)
      ∧ r.2.mem ((c.tc : Thread nD τ).loc main_v3_1) = G4 (F := Ideal) (arg0 m c) (arg1 m c) (arg2 m c)
      ∧ r.2.mem ((c.tc : Thread nD τ).loc main_v3_2) = G5 (F := Ideal) (arg0 m c) (arg1 m c) (arg2 m c)
      ∧ r.2.mem ((c.tc : Thread nD τ).loc main_v3_3) = G6 (F := Ideal) (arg0 m c) (arg1 m c) (arg2 m c)
      ∧ r.2.mem ((c.tc : Thread nD τ).loc main_v3_4) = G7 (F := Ideal) (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨ext2 (α := EReal) _ _ fun k j => (dw_array m c _ ((h.1 c).1 3) k j).trans (G3_apply _ _ _ k j).symm,
      ext2 (α := EReal) _ _ fun n k => (xq_array m c _ ((h.1 c).1 4) n k).trans (G4_apply _ _ _ n k).symm,
      ext2 (α := EReal) _ _ fun n k => (xs_array m c _ ((h.1 c).1 5) n k).trans (G5_apply _ _ _ n k).symm,
      ext2 (α := EReal) _ _ fun n k => (dq_array m c _ ((h.1 c).1 6) n k).trans (G6_apply _ _ _ n k).symm,
      ext2 (α := EReal) _ _ fun n k => (ds_array m c _ ((h.1 c).1 7) n k).trans (G7_apply _ _ _ n k).symm,
      args_of_post m h.1 c⟩) (run_main m ρ)

theorem algebraic : Cert.algebraic_KernelIdeal_ReferenceIdeal := by
  intro m g m' g' _ hm
  refine ⟨_, _, _, _, _, run_values m g, ?_⟩
  refine (θ_run _ _ _).mono (fun r h c => ?_) (Cert.ReferenceIdeal.Hand.run m' g')
  have hc := h c
  rw [(hm c).1, (hm c).2.1, (hm c).2.2] at hc
  rw [(hm c).1, (hm c).2.1, (hm c).2.2]
  exact hc

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  trivial,
  Cert.KernelIdeal.Hand.algebraic⟩

end Cert.Proof

end
